-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_count_up [hPre_positions_count_up : Cert.Pre_positions_count_up.Facts] (m : (ℓ : Loc Cert.KernelIdeal.nD Cert.KernelIdeal.τ Cert.KernelIdeal.sig) → Buf (Elt Ideal) ℓ) : Prop :=
  ∀ c : Dev Cert.KernelIdeal.nD,
    (Cert.Pre_positions_count_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_count_up [hPre_positions_count_up : Cert.Pre_positions_count_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_count_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_positions_count_up [hKernelIdeal : Cert.KernelIdeal.Facts] [hPre_positions_count_up : Cert.Pre_positions_count_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_count_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_positions_count_up [hReferenceIdeal : Cert.ReferenceIdeal.Facts] [hPre_positions_count_up : Cert.Pre_positions_count_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_count_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_positions_count_up [hKernelIdeal : Cert.KernelIdeal.Facts] [hReferenceIdeal : Cert.ReferenceIdeal.Facts] [hPre_positions_count_up : Cert.Pre_positions_count_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_count_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_positions_count_up : Cert.Pre_positions_count_up.Facts),
    quiescent_Kernel (hKernel := hKernel)
    ∧ quiescent_KernelIdeal (hKernelIdeal := hKernelIdeal)
    ∧ quiescent_KernelIdeal_pre_positions_count_up (hKernelIdeal := hKernelIdeal) (hPre_positions_count_up := hPre_positions_count_up)
    ∧ quiescent_ReferenceIdeal (hReferenceIdeal := hReferenceIdeal)
    ∧ quiescent_ReferenceIdeal_pre_positions_count_up (hReferenceIdeal := hReferenceIdeal) (hPre_positions_count_up := hPre_positions_count_up)
    ∧ preserves_Kernel_KernelIdeal
    ∧ algebraic_KernelIdeal_ReferenceIdeal_pre_positions_count_up (hKernelIdeal := hKernelIdeal) (hReferenceIdeal := hReferenceIdeal) (hPre_positions_count_up := hPre_positions_count_up)
-- ==== Pre_positions_count_up.lean ====
abbrev S8192 : Shape := ⟨1, ![8192]⟩
abbrev S8 : Shape := ⟨1, ![8]⟩
abbrev S16x2048 : Shape := ⟨2, ![16, 2048]⟩
abbrev S32x2048 : Shape := ⟨2, ![32, 2048]⟩
abbrev S64x2048 : Shape := ⟨2, ![64, 2048]⟩
abbrev S128x2048 : Shape := ⟨2, ![128, 2048]⟩
abbrev S256x2048 : Shape := ⟨2, ![256, 2048]⟩
abbrev S512x2048 : Shape := ⟨2, ![512, 2048]⟩
abbrev S1024x2048 : Shape := ⟨2, ![1024, 2048]⟩
abbrev S2048x2048 : Shape := ⟨2, ![2048, 2048]⟩

class Facts : Prop where

variable [Facts]

def fn {F : FTy → Type} [FloatOps F] (main_arg0 : IVec S8192 32) (main_arg1 : IVec S8 32) (main_arg2 : FVec F S16x2048 .f32) (main_arg3 : FVec F S32x2048 .f32) (main_arg4 : FVec F S64x2048 .f32) (main_arg5 : FVec F S128x2048 .f32) (main_arg6 : FVec F S256x2048 .f32) (main_arg7 : FVec F S512x2048 .f32) (main_arg8 : FVec F S1024x2048 .f32) (main_arg9 : FVec F S2048x2048 .f32) : IVec S8192 1 :=
  let main_v0 : IVec S8192 32 := iotaInDim S8192 32 0
  let main_v1 : IVec S8192 1 := cmpi .eq main_arg0 main_v0
  main_v1
-- ==== Kernel.lean ====
abbrev S8192 : Shape := ⟨1, ![8192]⟩
abbrev S8 : Shape := ⟨1, ![8]⟩
abbrev S16x2048 : Shape := ⟨2, ![16, 2048]⟩
abbrev S32x2048 : Shape := ⟨2, ![32, 2048]⟩
abbrev S64x2048 : Shape := ⟨2, ![64, 2048]⟩
abbrev S128x2048 : Shape := ⟨2, ![128, 2048]⟩
abbrev S256x2048 : Shape := ⟨2, ![256, 2048]⟩
abbrev S512x2048 : Shape := ⟨2, ![512, 2048]⟩
abbrev S1024x2048 : Shape := ⟨2, ![1024, 2048]⟩
abbrev S2048x2048 : Shape := ⟨2, ![2048, 2048]⟩
abbrev S_ : Shape := ⟨0, ![]⟩
abbrev S8192x2048 : Shape := ⟨2, ![8192, 2048]⟩
abbrev S16x512 : Shape := ⟨2, ![16, 512]⟩
abbrev S32x512 : Shape := ⟨2, ![32, 512]⟩
abbrev S64x512 : Shape := ⟨2, ![64, 512]⟩
abbrev S128x512 : Shape := ⟨2, ![128, 512]⟩
abbrev S256x512 : Shape := ⟨2, ![256, 512]⟩
abbrev S512x512 : Shape := ⟨2, ![512, 512]⟩
abbrev S1024x512 : Shape := ⟨2, ![1024, 512]⟩
abbrev S2048x512 : Shape := ⟨2, ![2048, 512]⟩
abbrev S2x2048x512 : Shape := ⟨3, ![2, 2048, 512]⟩
abbrev S2x4 : Shape := ⟨2, ![2, 4]⟩
abbrev S1x1 : Shape := ⟨2, ![1, 1]⟩
abbrev S1x2048x512 : Shape := ⟨3, ![1, 2048, 512]⟩
abbrev S1 : Shape := ⟨1, ![1]⟩

abbrev nBuf : Space → Nat
  | .hbm => 38
  | .vmem => 34
  | .smem => 1
  | _ => 0

abbrev bufTy : (tb : Table) → Fin (tcTables nBuf tb) → BufTy
  | .hbm, ⟨0, _⟩ => ⟨S8192, .i32⟩
  | .hbm, ⟨1, _⟩ => ⟨S8, .i32⟩
  | .hbm, ⟨2, _⟩ => ⟨S16x2048, .f32⟩
  | .hbm, ⟨3, _⟩ => ⟨S32x2048, .f32⟩
  | .hbm, ⟨4, _⟩ => ⟨S64x2048, .f32⟩
  | .hbm, ⟨5, _⟩ => ⟨S128x2048, .f32⟩
  | .hbm, ⟨6, _⟩ => ⟨S256x2048, .f32⟩
  | .hbm, ⟨7, _⟩ => ⟨S512x2048, .f32⟩
  | .hbm, ⟨8, _⟩ => ⟨S1024x2048, .f32⟩
  | .hbm, ⟨9, _⟩ => ⟨S2048x2048, .f32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S8, .i1⟩
  | .hbm, ⟨29, _⟩ => ⟨S8, .i1⟩
  | .hbm, ⟨30, _⟩ => ⟨S8, .i32⟩
  | .hbm, ⟨31, _⟩ => ⟨S8, .i1⟩
  | .hbm, ⟨32, _⟩ => ⟨S_, .i1⟩
  | .hbm, ⟨33, _⟩ => ⟨S_, .i1⟩
  | .hbm, ⟨34, _⟩ => ⟨S_, .i32⟩
  | .hbm, ⟨35, _⟩ => ⟨S8192x2048, .f32⟩
  | .hbm, ⟨36, _⟩ => ⟨S8192x2048, .f32⟩
  | .hbm, ⟨37, _⟩ => ⟨S8192x2048, .f32⟩
  | .local _ .vmem, ⟨0, _⟩ => ⟨S16x512, .f32⟩
  | .local _ .vmem, ⟨1, _⟩ => ⟨S16x512, .f32⟩
  | .local _ .vmem, ⟨2, _⟩ => ⟨S32x512, .f32⟩
  | .local _ .vmem, ⟨3, _⟩ => ⟨S32x512, .f32⟩
  | .local _ .vmem, ⟨4, _⟩ => ⟨S64x512, .f32⟩
  | .local _ .vmem, ⟨5, _⟩ => ⟨S64x512, .f32⟩
  | .local _ .vmem, ⟨6, _⟩ => ⟨S128x512, .f32⟩
  | .local _ .vmem, ⟨7, _⟩ => ⟨S128x512, .f32⟩
  | .local _ .vmem, ⟨8, _⟩ => ⟨S256x512, .f32⟩
  | .local _ .vmem, ⟨9, _⟩ => ⟨S256x512, .f32⟩
  | .local _ .vmem, ⟨10, _⟩ => ⟨S512x512, .f32⟩
  | .local _ .vmem, ⟨11, _⟩ => ⟨S512x512, .f32⟩
  | .local _ .vmem, ⟨12, _⟩ => ⟨S1024x512, .f32⟩
  | .local _ .vmem, ⟨13, _⟩ => ⟨S1024x512, .f32⟩
  | .local _ .vmem, ⟨14, _⟩ => ⟨S2048x512, .f32⟩
  | .local _ .vmem, ⟨15, _⟩ => ⟨S2048x512, .f32⟩
  | .local _ .vmem, ⟨16, _⟩ => ⟨S2x2048x512, .f32⟩
  | .local _ .vmem, ⟨17, _⟩ => ⟨S16x512, .f32⟩
  | .local _ .vmem, ⟨18, _⟩ => ⟨S16x512, .f32⟩
  | .local _ .vmem, ⟨19, _⟩ => ⟨S32x512, .f32⟩
  | .local _ .vmem, ⟨20, _⟩ => ⟨S32x512, .f32⟩
  | .local _ .vmem, ⟨21, _⟩ => ⟨S64x512, .f32⟩
  | .local _ .vmem, ⟨22, _⟩ => ⟨S64x512, .f32⟩
  | .local _ .vmem, ⟨23, _⟩ => ⟨S128x512, .f32⟩
  | .local _ .vmem, ⟨24, _⟩ => ⟨S128x512, .f32⟩
  | .local _ .vmem, ⟨25, _⟩ => ⟨S256x512, .f32⟩
  | .local _ .vmem, ⟨26, _⟩ => ⟨S256x512, .f32⟩
  | .local _ .vmem, ⟨27, _⟩ => ⟨S512x512, .f32⟩
  | .local _ .vmem, ⟨28, _⟩ => ⟨S512x512, .f32⟩
  | .local _ .vmem, ⟨29, _⟩ => ⟨S1024x512, .f32⟩
  | .local _ .vmem, ⟨30, _⟩ => ⟨S1024x512, .f32⟩
  | .local _ .vmem, ⟨31, _⟩ => ⟨S2048x512, .f32⟩
  | .local _ .vmem, ⟨32, _⟩ => ⟨S2048x512, .f32⟩
  | .local _ .vmem, ⟨33, _⟩ => ⟨S2x2048x512, .f32⟩
  | .local _ .smem, ⟨0, _⟩ => ⟨S8, .i32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_c_1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_case0b0_v5 : Ref sig .tc := ⟨.hbm, 36, rfl⟩
abbrev main_case0b1_v5 : Ref sig .tc := ⟨.hbm, 37, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 2 → Nat :=
  let arg0 : BitVec 32 := BitVec.ofNat 32 (i 0).val
  let c2_i32 : BitVec 32 := 2#32
  let v0 : BitVec 32 := Scalar.remsi arg0 c2_i32
  let c0_i32_90 : BitVec 32 := 0#32
  ![v0.toNat, 0]
def k0_off2 (i : grid0.Coords) : Fin 2 → Nat :=
  let c0_i32_91 : BitVec 32 := 0#32
  let arg0 : BitVec 32 := BitVec.ofNat 32 (i 0).val
  let c2_i32_85 : BitVec 32 := 2#32
  let v161 : BitVec 32 := Scalar.subi arg0 c2_i32_85
  let c512_i32_86 : BitVec 32 := 512#32
  let v162 : BitVec 32 := Scalar.muli v161 c512_i32_86
  ![0, v162.toNat]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_92 : BitVec 32 := 0#32
  let c0_i32_93 : BitVec 32 := 0#32
  ![v0.toNat, 0, 0]
def k0_off4 (i : grid0.Coords) : Fin 2 → Nat :=
  let arg0 : BitVec 32 := BitVec.ofNat 32 (i 0).val
  let c2_i32 : BitVec 32 := 2#32
  let v0 : BitVec 32 := Scalar.remsi arg0 c2_i32
  let c1_i32_94 : BitVec 32 := 1#32
  ![v0.toNat, 1]
def k0_off5 (i : grid0.Coords) : Fin 2 → Nat :=
  let c2048_i32_95 : BitVec 32 := 2048#32
  let arg0 : BitVec 32 := BitVec.ofNat 32 (i 0).val
  let c2_i32_85 : BitVec 32 := 2#32
  let v161 : BitVec 32 := Scalar.subi arg0 c2_i32_85
  let c512_i32_87 : BitVec 32 := 512#32
  let v163 : BitVec 32 := Scalar.muli v161 c512_i32_87
  ![2048, v163.toNat]
def k0_off6 (i : grid0.Coords) : Fin 2 → Nat :=
  let arg0 : BitVec 32 := BitVec.ofNat 32 (i 0).val
  let c2_i32 : BitVec 32 := 2#32
  let v0 : BitVec 32 := Scalar.remsi arg0 c2_i32
  let c2_i32_98 : BitVec 32 := 2#32
  ![v0.toNat, 2]
def k0_off7 (i : grid0.Coords) : Fin 2 → Nat :=
  let c4096_i32_99 : BitVec 32 := 4096#32
  let arg0 : BitVec 32 := BitVec.ofNat 32 (i 0).val
  let c2_i32_85 : BitVec 32 := 2#32
  let v161 : BitVec 32 := Scalar.subi arg0 c2_i32_85
  let c512_i32_88 : BitVec 32 := 512#32
  let v164 : BitVec 32 := Scalar.muli v161 c512_i32_88
  ![4096, v164.toNat]
def k0_off8 (i : grid0.Coords) : Fin 2 → Nat :=
  let arg0 : BitVec 32 := BitVec.ofNat 32 (i 0).val
  let c2_i32 : BitVec 32 := 2#32
  let v0 : BitVec 32 := Scalar.remsi arg0 c2_i32
  let c3_i32_102 : BitVec 32 := 3#32
  ![v0.toNat, 3]
def k0_off9 (i : grid0.Coords) : Fin 2 → Nat :=
  let c6144_i32_103 : BitVec 32 := 6144#32
  let arg0 : BitVec 32 := BitVec.ofNat 32 (i 0).val
  let c2_i32_85 : BitVec 32 := 2#32
  let v161 : BitVec 32 := Scalar.subi arg0 c2_i32_85
  let c512_i32_89 : BitVec 32 := 512#32
  let v165 : BitVec 32 := Scalar.muli v161 c512_i32_89
  ![6144, v165.toNat]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v130 : Index := Scalar.indexCast v0
  let c0_64 : Index := 0#32
  let c0_65 : Index := 0#32
  ![v130.toNat, 0, 0]
def k0_off11 (i : grid0.Coords) : Fin 2 → Nat :=
  let arg0 : BitVec 32 := BitVec.ofNat 32 (i 0).val
  let c2_i32 : BitVec 32 := 2#32
  let v0 : BitVec 32 := Scalar.remsi arg0 c2_i32
  let c0_i32_70 : BitVec 32 := 0#32
  ![v0.toNat, 0]
def k0_off12 (i : grid0.Coords) : Fin 2 → Nat :=
  let c0_i32_71 : BitVec 32 := 0#32
  let arg0 : BitVec 32 := BitVec.ofNat 32 (i 0).val
  let c512_i32_66 : BitVec 32 := 512#32
  let v134 : BitVec 32 := Scalar.muli arg0 c512_i32_66
  ![0, v134.toNat]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_72 : BitVec 32 := 0#32
  let c0_i32_73 : BitVec 32 := 0#32
  ![v0.toNat, 0, 0]
def k0_off14 (i : grid0.Coords) : Fin 2 → Nat :=
  let arg0 : BitVec 32 := BitVec.ofNat 32 (i 0).val
  let c2_i32 : BitVec 32 := 2#32
  let v0 : BitVec 32 := Scalar.remsi arg0 c2_i32
  let c1_i32_74 : BitVec 32 := 1#32
  ![v0.toNat, 1]
def k0_off15 (i : grid0.Coords) : Fin 2 → Nat :=
  let c2048_i32_75 : BitVec 32 := 2048#32
  let arg0 : BitVec 32 := BitVec.ofNat 32 (i 0).val
  let c512_i32_67 : BitVec 32 := 512#32
  let v135 : BitVec 32 := Scalar.muli arg0 c512_i32_67
  ![2048, v135.toNat]
def k0_off16 (i : grid0.Coords) : Fin 2 → Nat :=
  let arg0 : BitVec 32 := BitVec.ofNat 32 (i 0).val
  let c2_i32 : BitVec 32 := 2#32
  let v0 : BitVec 32 := Scalar.remsi arg0 c2_i32
  let c2_i32_78 : BitVec 32 := 2#32
  ![v0.toNat, 2]
def k0_off17 (i : grid0.Coords) : Fin 2 → Nat :=
  let c4096_i32 : BitVec 32 := 4096#32
  let arg0 : BitVec 32 := BitVec.ofNat 32 (i 0).val
  let c512_i32_68 : BitVec 32 := 512#32
  let v136 : BitVec 32 := Scalar.muli arg0 c512_i32_68
  ![4096, v136.toNat]
def k0_off18 (i : grid0.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k0_off19 (i : grid0.Coords) : Fin 2 → Nat :=
  let c6144_i32 : BitVec 32 := 6144#32
  let arg0 : BitVec 32 := BitVec.ofNat 32 (i 0).val
  let c512_i32_69 : BitVec 32 := 512#32
  let v137 : BitVec 32 := Scalar.muli arg0 c512_i32_69
  ![6144, v137.toNat]
def k0_cond2 (i : grid0.Coords) : BitVec 1 :=
  let arg0 : BitVec 32 := BitVec.ofNat 32 (i 0).val
  let c3_i32_83 : BitVec 32 := 3#32
  let v158 : BitVec 1 := Scalar.cmpi .eq arg0 c3_i32_83
  let v159 : BitVec 32 := Scalar.extui v158
  let c0_i32_84 : BitVec 32 := 0#32
  let v160 : BitVec 1 := Scalar.cmpi .ne v159 c0_i32_84
  v160

def k0_off20 (i : grid0.Coords) : Fin 2 → Nat :=
  let c1_i32_86 : BitVec 32 := 1#32
  let arg0 : BitVec 32 := BitVec.ofNat 32 (i 0).val
  let c2_i32 : BitVec 32 := 2#32
  let v0 : BitVec 32 := Scalar.remsi arg0 c2_i32
  let v162 : BitVec 32 := Scalar.subi c1_i32_86 v0
  let c0_i32_91 : BitVec 32 := 0#32
  ![v162.toNat, 0]
def k0_off21 (i : grid0.Coords) : Fin 2 → Nat :=
  let c0_i32_92 : BitVec 32 := 0#32
  let arg0 : BitVec 32 := BitVec.ofNat 32 (i 0).val
  let c1_i32_85 : BitVec 32 := 1#32
  let v161 : BitVec 32 := Scalar.subi arg0 c1_i32_85
  let c512_i32_87 : BitVec 32 := 512#32
  let v163 : BitVec 32 := Scalar.muli v161 c512_i32_87
  ![0, v163.toNat]
def k0_off22 (i : grid0.Coords) : Fin 3 → Nat :=
  let c1_i32_86 : BitVec 32 := 1#32
  let arg0 : BitVec 32 := BitVec.ofNat 32 (i 0).val
  let c2_i32 : BitVec 32 := 2#32
  let v0 : BitVec 32 := Scalar.remsi arg0 c2_i32
  let v162 : BitVec 32 := Scalar.subi c1_i32_86 v0
  let c0_i32_93 : BitVec 32 := 0#32
  let c0_i32_94 : BitVec 32 := 0#32
  ![v162.toNat, 0, 0]
def k0_off23 (i : grid0.Coords) : Fin 2 → Nat :=
  let c1_i32_86 : BitVec 32 := 1#32
  let arg0 : BitVec 32 := BitVec.ofNat 32 (i 0).val
  let c2_i32 : BitVec 32 := 2#32
  let v0 : BitVec 32 := Scalar.remsi arg0 c2_i32
  let v162 : BitVec 32 := Scalar.subi c1_i32_86 v0
  let c1_i32_95 : BitVec 32 := 1#32
  ![v162.toNat, 1]
def k0_off24 (i : grid0.Coords) : Fin 2 → Nat :=
  let c2048_i32_96 : BitVec 32 := 2048#32
  let arg0 : BitVec 32 := BitVec.ofNat 32 (i 0).val
  let c1_i32_85 : BitVec 32 := 1#32
  let v161 : BitVec 32 := Scalar.subi arg0 c1_i32_85
  let c512_i32_88 : BitVec 32 := 512#32
  let v164 : BitVec 32 := Scalar.muli v161 c512_i32_88
  ![2048, v164.toNat]
def k0_off25 (i : grid0.Coords) : Fin 2 → Nat :=
  let c1_i32_86 : BitVec 32 := 1#32
  let arg0 : BitVec 32 := BitVec.ofNat 32 (i 0).val
  let c2_i32 : BitVec 32 := 2#32
  let v0 : BitVec 32 := Scalar.remsi arg0 c2_i32
  let v162 : BitVec 32 := Scalar.subi c1_i32_86 v0
  let c2_i32_99 : BitVec 32 := 2#32
  ![v162.toNat, 2]
def k0_off26 (i : grid0.Coords) : Fin 2 → Nat :=
  let c4096_i32_100 : BitVec 32 := 4096#32
  let arg0 : BitVec 32 := BitVec.ofNat 32 (i 0).val
  let c1_i32_85 : BitVec 32 := 1#32
  let v161 : BitVec 32 := Scalar.subi arg0 c1_i32_85
  let c512_i32_89 : BitVec 32 := 512#32
  let v165 : BitVec 32 := Scalar.muli v161 c512_i32_89
  ![4096, v165.toNat]
def k0_off27 (i : grid0.Coords) : Fin 2 → Nat :=
  let c1_i32_86 : BitVec 32 := 1#32
  let arg0 : BitVec 32 := BitVec.ofNat 32 (i 0).val
  let c2_i32 : BitVec 32 := 2#32
  let v0 : BitVec 32 := Scalar.remsi arg0 c2_i32
  let v162 : BitVec 32 := Scalar.subi c1_i32_86 v0
  let c3_i32_103 : BitVec 32 := 3#32
  ![v162.toNat, 3]
def k0_off28 (i : grid0.Coords) : Fin 2 → Nat :=
  let c6144_i32_104 : BitVec 32 := 6144#32
  let arg0 : BitVec 32 := BitVec.ofNat 32 (i 0).val
  let c1_i32_85 : BitVec 32 := 1#32
  let v161 : BitVec 32 := Scalar.subi arg0 c1_i32_85
  let c512_i32_90 : BitVec 32 := 512#32
  let v166 : BitVec 32 := Scalar.muli v161 c512_i32_90
  ![6144, v166.toNat]
def k0_off29 (i : grid0.Coords) : Fin 2 → Nat :=
  let arg0 : BitVec 32 := BitVec.ofNat 32 (i 0).val
  let c2_i32 : BitVec 32 := 2#32
  let v0 : BitVec 32 := Scalar.remsi arg0 c2_i32
  let c0_i32_111 : BitVec 32 := 0#32
  ![v0.toNat, 0]
def k0_off30 (i : grid0.Coords) : Fin 2 → Nat :=
  let c0_i32_112 : BitVec 32 := 0#32
  let arg0 : BitVec 32 := BitVec.ofNat 32 (i 0).val
  let c512_i32_107 : BitVec 32 := 512#32
  let v187 : BitVec 32 := Scalar.muli arg0 c512_i32_107
  ![0, v187.toNat]
def k0_off31 (i : grid0.Coords) : Fin 3 → Nat :=
  let arg0 : BitVec 32 := BitVec.ofNat 32 (i 0).val
  let c2_i32 : BitVec 32 := 2#32
  let v0 : BitVec 32 := Scalar.remsi arg0 c2_i32
  let c0_i32_113 : BitVec 32 := 0#32
  let c0_i32_114 : BitVec 32 := 0#32
  ![v0.toNat, 0, 0]
def k0_off32 (i : grid0.Coords) : Fin 2 → Nat :=
  let arg0 : BitVec 32 := BitVec.ofNat 32 (i 0).val
  let c2_i32 : BitVec 32 := 2#32
  let v0 : BitVec 32 := Scalar.remsi arg0 c2_i32
  let c1_i32_115 : BitVec 32 := 1#32
  ![v0.toNat, 1]
def k0_off33 (i : grid0.Coords) : Fin 2 → Nat :=
  let c2048_i32_116 : BitVec 32 := 2048#32
  let arg0 : BitVec 32 := BitVec.ofNat 32 (i 0).val
  let c512_i32_108 : BitVec 32 := 512#32
  let v188 : BitVec 32 := Scalar.muli arg0 c512_i32_108
  ![2048, v188.toNat]
def k0_off34 (i : grid0.Coords) : Fin 2 → Nat :=
  let arg0 : BitVec 32 := BitVec.ofNat 32 (i 0).val
  let c2_i32 : BitVec 32 := 2#32
  let v0 : BitVec 32 := Scalar.remsi arg0 c2_i32
  let c2_i32_119 : BitVec 32 := 2#32
  ![v0.toNat, 2]
def k0_off35 (i : grid0.Coords) : Fin 2 → Nat :=
  let c4096_i32_120 : BitVec 32 := 4096#32
  let arg0 : BitVec 32 := BitVec.ofNat 32 (i 0).val
  let c512_i32_109 : BitVec 32 := 512#32
  let v189 : BitVec 32 := Scalar.muli arg0 c512_i32_109
  ![4096, v189.toNat]
def k0_off36 (i : grid0.Coords) : Fin 2 → Nat :=
  let arg0 : BitVec 32 := BitVec.ofNat 32 (i 0).val
  let c2_i32 : BitVec 32 := 2#32
  let v0 : BitVec 32 := Scalar.remsi arg0 c2_i32
  let c3_i32_123 : BitVec 32 := 3#32
  ![v0.toNat, 3]
def k0_off37 (i : grid0.Coords) : Fin 2 → Nat :=
  let c6144_i32_124 : BitVec 32 := 6144#32
  let arg0 : BitVec 32 := BitVec.ofNat 32 (i 0).val
  let c512_i32_110 : BitVec 32 := 512#32
  let v190 : BitVec 32 := Scalar.muli arg0 c512_i32_110
  ![6144, v190.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

abbrev pre1 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k1_off1 (i : grid1.Coords) : Fin 2 → Nat :=
  let arg0 : BitVec 32 := BitVec.ofNat 32 (i 0).val
  let c2_i32 : BitVec 32 := 2#32
  let v0 : BitVec 32 := Scalar.remsi arg0 c2_i32
  let c0_i32_39 : BitVec 32 := 0#32
  ![v0.toNat, 0]
def k1_off2 (i : grid1.Coords) : Fin 2 → Nat :=
  let c0_i32_40 : BitVec 32 := 0#32
  let arg0 : BitVec 32 := BitVec.ofNat 32 (i 0).val
  let c2_i32_34 : BitVec 32 := 2#32
  let v65 : BitVec 32 := Scalar.subi arg0 c2_i32_34
  let c512_i32_35 : BitVec 32 := 512#32
  let v66 : BitVec 32 := Scalar.muli v65 c512_i32_35
  ![0, v66.toNat]
def k1_off3 (i : grid1.Coords) : Fin 3 → Nat :=
  let arg0 : BitVec 32 := BitVec.ofNat 32 (i 0).val
  let c2_i32 : BitVec 32 := 2#32
  let v0 : BitVec 32 := Scalar.remsi arg0 c2_i32
  let c0_i32_41 : BitVec 32 := 0#32
  let c0_i32_42 : BitVec 32 := 0#32
  ![v0.toNat, 0, 0]
def k1_off4 (i : grid1.Coords) : Fin 2 → Nat :=
  let arg0 : BitVec 32 := BitVec.ofNat 32 (i 0).val
  let c2_i32 : BitVec 32 := 2#32
  let v0 : BitVec 32 := Scalar.remsi arg0 c2_i32
  let c1_i32_43 : BitVec 32 := 1#32
  ![v0.toNat, 1]
def k1_off5 (i : grid1.Coords) : Fin 2 → Nat :=
  let c2048_i32_44 : BitVec 32 := 2048#32
  let arg0 : BitVec 32 := BitVec.ofNat 32 (i 0).val
  let c2_i32_34 : BitVec 32 := 2#32
  let v65 : BitVec 32 := Scalar.subi arg0 c2_i32_34
  let c512_i32_36 : BitVec 32 := 512#32
  let v67 : BitVec 32 := Scalar.muli v65 c512_i32_36
  ![2048, v67.toNat]
def k1_off6 (i : grid1.Coords) : Fin 2 → Nat :=
  let arg0 : BitVec 32 := BitVec.ofNat 32 (i 0).val
  let c2_i32 : BitVec 32 := 2#32
  let v0 : BitVec 32 := Scalar.remsi arg0 c2_i32
  let c2_i32_47 : BitVec 32 := 2#32
  ![v0.toNat, 2]
def k1_off7 (i : grid1.Coords) : Fin 2 → Nat :=
  let c4096_i32_48 : BitVec 32 := 4096#32
  let arg0 : BitVec 32 := BitVec.ofNat 32 (i 0).val
  let c2_i32_34 : BitVec 32 := 2#32
  let v65 : BitVec 32 := Scalar.subi arg0 c2_i32_34
  let c512_i32_37 : BitVec 32 := 512#32
  let v68 : BitVec 32 := Scalar.muli v65 c512_i32_37
  ![4096, v68.toNat]
def k1_off8 (i : grid1.Coords) : Fin 2 → Nat :=
  let arg0 : BitVec 32 := BitVec.ofNat 32 (i 0).val
  let c2_i32 : BitVec 32 := 2#32
  let v0 : BitVec 32 := Scalar.remsi arg0 c2_i32
  let c3_i32_51 : BitVec 32 := 3#32
  ![v0.toNat, 3]
def k1_off9 (i : grid1.Coords) : Fin 2 → Nat :=
  let c6144_i32_52 : BitVec 32 := 6144#32
  let arg0 : BitVec 32 := BitVec.ofNat 32 (i 0).val
  let c2_i32_34 : BitVec 32 := 2#32
  let v65 : BitVec 32 := Scalar.subi arg0 c2_i32_34
  let c512_i32_38 : BitVec 32 := 512#32
  let v69 : BitVec 32 := Scalar.muli v65 c512_i32_38
  ![6144, v69.toNat]
def k1_off10 (i : grid1.Coords) : Fin 3 → Nat :=
  let arg0 : BitVec 32 := BitVec.ofNat 32 (i 0).val
  let c2_i32 : BitVec 32 := 2#32
  let v0 : BitVec 32 := Scalar.remsi arg0 c2_i32
  let v34 : Index := Scalar.indexCast v0
  let c0_16 : Index := 0#32
  let c0_17 : Index := 0#32
  ![v34.toNat, 0, 0]
def k1_off11 (i : grid1.Coords) : Fin 2 → Nat :=
  let arg0 : BitVec 32 := BitVec.ofNat 32 (i 0).val
  let c2_i32 : BitVec 32 := 2#32
  let v0 : BitVec 32 := Scalar.remsi arg0 c2_i32
  let c0_i32_21 : BitVec 32 := 0#32
  ![v0.toNat, 0]
def k1_off12 (i : grid1.Coords) : Fin 2 → Nat :=
  let c0_i32_22 : BitVec 32 := 0#32
  let arg0 : BitVec 32 := BitVec.ofNat 32 (i 0).val
  let c512_i32 : BitVec 32 := 512#32
  let v38 : BitVec 32 := Scalar.muli arg0 c512_i32
  ![0, v38.toNat]
def k1_off13 (i : grid1.Coords) : Fin 3 → Nat :=
  let arg0 : BitVec 32 := BitVec.ofNat 32 (i 0).val
  let c2_i32 : BitVec 32 := 2#32
  let v0 : BitVec 32 := Scalar.remsi arg0 c2_i32
  let c0_i32_23 : BitVec 32 := 0#32
  let c0_i32_24 : BitVec 32 := 0#32
  ![v0.toNat, 0, 0]
def k1_off14 (i : grid1.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k1_off15 (i : grid1.Coords) : Fin 2 → Nat :=
  let c2048_i32 : BitVec 32 := 2048#32
  let arg0 : BitVec 32 := BitVec.ofNat 32 (i 0).val
  let c512_i32_18 : BitVec 32 := 512#32
  let v39 : BitVec 32 := Scalar.muli arg0 c512_i32_18
  ![2048, v39.toNat]
def k1_off16 (i : grid1.Coords) : Fin 2 → Nat :=
  let arg0 : BitVec 32 := BitVec.ofNat 32 (i 0).val
  let c2_i32 : BitVec 32 := 2#32
  let v0 : BitVec 32 := Scalar.remsi arg0 c2_i32
  let c2_i32_27 : BitVec 32 := 2#32
  ![v0.toNat, 2]
def k1_off17 (i : grid1.Coords) : Fin 2 → Nat :=
  let c4096_i32 : BitVec 32 := 4096#32
  let arg0 : BitVec 32 := BitVec.ofNat 32 (i 0).val
  let c512_i32_19 : BitVec 32 := 512#32
  let v40 : BitVec 32 := Scalar.muli arg0 c512_i32_19
  ![4096, v40.toNat]
def k1_off18 (i : grid1.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k1_off19 (i : grid1.Coords) : Fin 2 → Nat :=
  let c6144_i32 : BitVec 32 := 6144#32
  let arg0 : BitVec 32 := BitVec.ofNat 32 (i 0).val
  let c512_i32_20 : BitVec 32 := 512#32
  let v41 : BitVec 32 := Scalar.muli arg0 c512_i32_20
  ![6144, v41.toNat]
def k1_cond2 (i : grid1.Coords) : BitVec 1 :=
  let arg0 : BitVec 32 := BitVec.ofNat 32 (i 0).val
  let c3_i32_32 : BitVec 32 := 3#32
  let v62 : BitVec 1 := Scalar.cmpi .eq arg0 c3_i32_32
  let v63 : BitVec 32 := Scalar.extui v62
  let c0_i32_33 : BitVec 32 := 0#32
  let v64 : BitVec 1 := Scalar.cmpi .ne v63 c0_i32_33
  v64

def k1_off20 (i : grid1.Coords) : Fin 2 → Nat :=
  let c1_i32_35 : BitVec 32 := 1#32
  let arg0 : BitVec 32 := BitVec.ofNat 32 (i 0).val
  let c2_i32 : BitVec 32 := 2#32
  let v0 : BitVec 32 := Scalar.remsi arg0 c2_i32
  let v66 : BitVec 32 := Scalar.subi c1_i32_35 v0
  let c0_i32_40 : BitVec 32 := 0#32
  ![v66.toNat, 0]
def k1_off21 (i : grid1.Coords) : Fin 2 → Nat :=
  let c0_i32_41 : BitVec 32 := 0#32
  let arg0 : BitVec 32 := BitVec.ofNat 32 (i 0).val
  let c1_i32_34 : BitVec 32 := 1#32
  let v65 : BitVec 32 := Scalar.subi arg0 c1_i32_34
  let c512_i32_36 : BitVec 32 := 512#32
  let v67 : BitVec 32 := Scalar.muli v65 c512_i32_36
  ![0, v67.toNat]
def k1_off22 (i : grid1.Coords) : Fin 3 → Nat :=
  let c1_i32_35 : BitVec 32 := 1#32
  let arg0 : BitVec 32 := BitVec.ofNat 32 (i 0).val
  let c2_i32 : BitVec 32 := 2#32
  let v0 : BitVec 32 := Scalar.remsi arg0 c2_i32
  let v66 : BitVec 32 := Scalar.subi c1_i32_35 v0
  let c0_i32_42 : BitVec 32 := 0#32
  let c0_i32_43 : BitVec 32 := 0#32
  ![v66.toNat, 0, 0]
def k1_off23 (i : grid1.Coords) : Fin 2 → Nat :=
  let c1_i32_35 : BitVec 32 := 1#32
  let arg0 : BitVec 32 := BitVec.ofNat 32 (i 0).val
  let c2_i32 : BitVec 32 := 2#32
  let v0 : BitVec 32 := Scalar.remsi arg0 c2_i32
  let v66 : BitVec 32 := Scalar.subi c1_i32_35 v0
  let c1_i32_44 : BitVec 32 := 1#32
  ![v66.toNat, 1]
def k1_off24 (i : grid1.Coords) : Fin 2 → Nat :=
  let c2048_i32_45 : BitVec 32 := 2048#32
  let arg0 : BitVec 32 := BitVec.ofNat 32 (i 0).val
  let c1_i32_34 : BitVec 32 := 1#32
  let v65 : BitVec 32 := Scalar.subi arg0 c1_i32_34
  let c512_i32_37 : BitVec 32 := 512#32
  let v68 : BitVec 32 := Scalar.muli v65 c512_i32_37
  ![2048, v68.toNat]
def k1_off25 (i : grid1.Coords) : Fin 2 → Nat :=
  let c1_i32_35 : BitVec 32 := 1#32
  let arg0 : BitVec 32 := BitVec.ofNat 32 (i 0).val
  let c2_i32 : BitVec 32 := 2#32
  let v0 : BitVec 32 := Scalar.remsi arg0 c2_i32
  let v66 : BitVec 32 := Scalar.subi c1_i32_35 v0
  let c2_i32_48 : BitVec 32 := 2#32
  ![v66.toNat, 2]
def k1_off26 (i : grid1.Coords) : Fin 2 → Nat :=
  let c4096_i32_49 : BitVec 32 := 4096#32
  let arg0 : BitVec 32 := BitVec.ofNat 32 (i 0).val
  let c1_i32_34 : BitVec 32 := 1#32
  let v65 : BitVec 32 := Scalar.subi arg0 c1_i32_34
  let c512_i32_38 : BitVec 32 := 512#32
  let v69 : BitVec 32 := Scalar.muli v65 c512_i32_38
  ![4096, v69.toNat]
def k1_off27 (i : grid1.Coords) : Fin 2 → Nat :=
  let c1_i32_35 : BitVec 32 := 1#32
  let arg0 : BitVec 32 := BitVec.ofNat 32 (i 0).val
  let c2_i32 : BitVec 32 := 2#32
  let v0 : BitVec 32 := Scalar.remsi arg0 c2_i32
  let v66 : BitVec 32 := Scalar.subi c1_i32_35 v0
  let c3_i32_52 : BitVec 32 := 3#32
  ![v66.toNat, 3]
def k1_off28 (i : grid1.Coords) : Fin 2 → Nat :=
  let c6144_i32_53 : BitVec 32 := 6144#32
  let arg0 : BitVec 32 := BitVec.ofNat 32 (i 0).val
  let c1_i32_34 : BitVec 32 := 1#32
  let v65 : BitVec 32 := Scalar.subi arg0 c1_i32_34
  let c512_i32_39 : BitVec 32 := 512#32
  let v70 : BitVec 32 := Scalar.muli v65 c512_i32_39
  ![6144, v70.toNat]
def k1_off29 (i : grid1.Coords) : Fin 2 → Nat :=
  let arg0 : BitVec 32 := BitVec.ofNat 32 (i 0).val
  let c2_i32 : BitVec 32 := 2#32
  let v0 : BitVec 32 := Scalar.remsi arg0 c2_i32
  let c0_i32_60 : BitVec 32 := 0#32
  ![v0.toNat, 0]
def k1_off30 (i : grid1.Coords) : Fin 2 → Nat :=
  let c0_i32_61 : BitVec 32 := 0#32
  let arg0 : BitVec 32 := BitVec.ofNat 32 (i 0).val
  let c512_i32_56 : BitVec 32 := 512#32
  let v91 : BitVec 32 := Scalar.muli arg0 c512_i32_56
  ![0, v91.toNat]
def k1_off31 (i : grid1.Coords) : Fin 3 → Nat :=
  let arg0 : BitVec 32 := BitVec.ofNat 32 (i 0).val
  let c2_i32 : BitVec 32 := 2#32
  let v0 : BitVec 32 := Scalar.remsi arg0 c2_i32
  let c0_i32_62 : BitVec 32 := 0#32
  let c0_i32_63 : BitVec 32 := 0#32
  ![v0.toNat, 0, 0]
def k1_off32 (i : grid1.Coords) : Fin 2 → Nat :=
  let arg0 : BitVec 32 := BitVec.ofNat 32 (i 0).val
  let c2_i32 : BitVec 32 := 2#32
  let v0 : BitVec 32 := Scalar.remsi arg0 c2_i32
  let c1_i32_64 : BitVec 32 := 1#32
  ![v0.toNat, 1]
def k1_off33 (i : grid1.Coords) : Fin 2 → Nat :=
  let c2048_i32_65 : BitVec 32 := 2048#32
  let arg0 : BitVec 32 := BitVec.ofNat 32 (i 0).val
  let c512_i32_57 : BitVec 32 := 512#32
  let v92 : BitVec 32 := Scalar.muli arg0 c512_i32_57
  ![2048, v92.toNat]
def k1_off34 (i : grid1.Coords) : Fin 2 → Nat :=
  let arg0 : BitVec 32 := BitVec.ofNat 32 (i 0).val
  let c2_i32 : BitVec 32 := 2#32
  let v0 : BitVec 32 := Scalar.remsi arg0 c2_i32
  let c2_i32_68 : BitVec 32 := 2#32
  ![v0.toNat, 2]
def k1_off35 (i : grid1.Coords) : Fin 2 → Nat :=
  let c4096_i32_69 : BitVec 32 := 4096#32
  let arg0 : BitVec 32 := BitVec.ofNat 32 (i 0).val
  let c512_i32_58 : BitVec 32 := 512#32
  let v93 : BitVec 32 := Scalar.muli arg0 c512_i32_58
  ![4096, v93.toNat]
def k1_off36 (i : grid1.Coords) : Fin 2 → Nat :=
  let arg0 : BitVec 32 := BitVec.ofNat 32 (i 0).val
  let c2_i32 : BitVec 32 := 2#32
  let v0 : BitVec 32 := Scalar.remsi arg0 c2_i32
  let c3_i32_72 : BitVec 32 := 3#32
  ![v0.toNat, 3]
def k1_off37 (i : grid1.Coords) : Fin 2 → Nat :=
  let c6144_i32_73 : BitVec 32 := 6144#32
  let arg0 : BitVec 32 := BitVec.ofNat 32 (i 0).val
  let c512_i32_59 : BitVec 32 := 512#32
  let v94 : BitVec 32 := Scalar.muli arg0 c512_i32_59
  ![6144, v94.toNat]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S8192 : Shape := ⟨1, ![8192]⟩
abbrev S8 : Shape := ⟨1, ![8]⟩
abbrev S16x2048 : Shape := ⟨2, ![16, 2048]⟩
abbrev S32x2048 : Shape := ⟨2, ![32, 2048]⟩
abbrev S64x2048 : Shape := ⟨2, ![64, 2048]⟩
abbrev S128x2048 : Shape := ⟨2, ![128, 2048]⟩
abbrev S256x2048 : Shape := ⟨2, ![256, 2048]⟩
abbrev S512x2048 : Shape := ⟨2, ![512, 2048]⟩
abbrev S1024x2048 : Shape := ⟨2, ![1024, 2048]⟩
abbrev S2048x2048 : Shape := ⟨2, ![2048, 2048]⟩
abbrev S_ : Shape := ⟨0, ![]⟩
abbrev S8192x2048 : Shape := ⟨2, ![8192, 2048]⟩
abbrev S1 : Shape := ⟨1, ![1]⟩
abbrev S8192x1 : Shape := ⟨2, ![8192, 1]⟩
abbrev S1x1 : Shape := ⟨2, ![1, 1]⟩

abbrev nBuf : Space → Nat
  | .hbm => 412
  | .vmem => 0
  | .smem => 0
  | _ => 0

abbrev hbmTy0_0 (i : Nat) : BufTy := match i % 128 with
  | 0 => ⟨S8192, .i32⟩
  | 1 => ⟨S8, .i32⟩
  | 2 => ⟨S16x2048, .f32⟩
  | 3 => ⟨S32x2048, .f32⟩
  | 4 => ⟨S64x2048, .f32⟩
  | 5 => ⟨S128x2048, .f32⟩
  | 6 => ⟨S256x2048, .f32⟩
  | 7 => ⟨S512x2048, .f32⟩
  | 8 => ⟨S1024x2048, .f32⟩
  | 9 => ⟨S2048x2048, .f32⟩
  | 10 => ⟨S_, .f32⟩
  | 11 => ⟨S8192x2048, .f32⟩
  | 12 => ⟨S1, .i32⟩
  | 13 => ⟨S_, .i32⟩
  | 14 => ⟨S8192, .i32⟩
  | 15 => ⟨S8192, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i1⟩
  | 30 => ⟨S_, .i32⟩
  | 31 => ⟨S_, .i1⟩
  | 32 => ⟨S8192, .i1⟩
  | 33 => ⟨S8192, .i1⟩
  | 34 => ⟨S8192, .i1⟩
  | 35 => ⟨S8192, .i32⟩
  | 36 => ⟨S8192, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S1, .i32⟩
  | 47 => ⟨S_, .i32⟩
  | 48 => ⟨S8192x1, .i32⟩
  | 49 => ⟨S8192x1, .i1⟩
  | 50 => ⟨S1x1, .i32⟩
  | 51 => ⟨S8192x1, .i32⟩
  | 52 => ⟨S8192x1, .i1⟩
  | 53 => ⟨S8192x1, .i1⟩
  | 54 => ⟨S_, .i1⟩
  | 55 => ⟨S8192, .i1⟩
  | 56 => ⟨S8192x2048, .f32⟩
  | 57 => ⟨S8192x2048, .i1⟩
  | 58 => ⟨S_, .f32⟩
  | 59 => ⟨S8192x2048, .f32⟩
  | 60 => ⟨S8192x2048, .f32⟩
  | 61 => ⟨S8192x2048, .f32⟩
  | 62 => ⟨S1, .i32⟩
  | 63 => ⟨S_, .i32⟩
  | 64 => ⟨S8192, .i32⟩
  | 65 => ⟨S8192, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i1⟩
  | 77 => ⟨S_, .i32⟩
  | 78 => ⟨S8192, .i32⟩
  | 79 => ⟨S8192, .i1⟩
  | 80 => ⟨S_, .i32⟩
  | 81 => ⟨S_, .i1⟩
  | 82 => ⟨S8192, .i1⟩
  | 83 => ⟨S8192, .i1⟩
  | 84 => ⟨S8192, .i1⟩
  | 85 => ⟨S8192, .i32⟩
  | 86 => ⟨S8192, .i32⟩
  | 87 => ⟨S8192, .i32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S1, .i32⟩
  | 97 => ⟨S_, .i32⟩
  | 98 => ⟨S8192x1, .i32⟩
  | 99 => ⟨S8192x1, .i1⟩
  | 100 => ⟨S1x1, .i32⟩
  | 101 => ⟨S8192x1, .i32⟩
  | 102 => ⟨S8192x1, .i1⟩
  | 103 => ⟨S8192x1, .i1⟩
  | 104 => ⟨S_, .i1⟩
  | 105 => ⟨S8192, .i1⟩
  | 106 => ⟨S8192x2048, .f32⟩
  | 107 => ⟨S8192x2048, .i1⟩
  | 108 => ⟨S_, .f32⟩
  | 109 => ⟨S8192x2048, .f32⟩
  | 110 => ⟨S8192x2048, .f32⟩
  | 111 => ⟨S8192x2048, .f32⟩
  | 112 => ⟨S1, .i32⟩
  | 113 => ⟨S_, .i32⟩
  | 114 => ⟨S8192, .i32⟩
  | 115 => ⟨S8192, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i1⟩
  | 127 => ⟨S_, .i32⟩
  | _ => ⟨S8192, .i32⟩

abbrev hbmTy0_1 (i : Nat) : BufTy := match i % 128 with
  | 0 => ⟨S8192, .i32⟩
  | 1 => ⟨S8192, .i1⟩
  | 2 => ⟨S_, .i32⟩
  | 3 => ⟨S_, .i1⟩
  | 4 => ⟨S8192, .i1⟩
  | 5 => ⟨S8192, .i1⟩
  | 6 => ⟨S8192, .i1⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S1, .i32⟩
  | 19 => ⟨S_, .i32⟩
  | 20 => ⟨S8192x1, .i32⟩
  | 21 => ⟨S8192x1, .i1⟩
  | 22 => ⟨S1x1, .i32⟩
  | 23 => ⟨S8192x1, .i32⟩
  | 24 => ⟨S8192x1, .i1⟩
  | 25 => ⟨S8192x1, .i1⟩
  | 26 => ⟨S_, .i1⟩
  | 27 => ⟨S8192, .i1⟩
  | 28 => ⟨S8192x2048, .f32⟩
  | 29 => ⟨S8192x2048, .i1⟩
  | 30 => ⟨S_, .f32⟩
  | 31 => ⟨S8192x2048, .f32⟩
  | 32 => ⟨S8192x2048, .f32⟩
  | 33 => ⟨S8192x2048, .f32⟩
  | 34 => ⟨S1, .i32⟩
  | 35 => ⟨S_, .i32⟩
  | 36 => ⟨S8192, .i32⟩
  | 37 => ⟨S8192, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S8192, .i32⟩
  | 45 => ⟨S8192, .i32⟩
  | 46 => ⟨S_, .i32⟩
  | 47 => ⟨S8192, .i32⟩
  | 48 => ⟨S8192, .i1⟩
  | 49 => ⟨S_, .i32⟩
  | 50 => ⟨S8192, .i32⟩
  | 51 => ⟨S8192, .i1⟩
  | 52 => ⟨S_, .i32⟩
  | 53 => ⟨S_, .i1⟩
  | 54 => ⟨S8192, .i1⟩
  | 55 => ⟨S8192, .i1⟩
  | 56 => ⟨S8192, .i1⟩
  | 57 => ⟨S8192, .i32⟩
  | 58 => ⟨S8192, .i32⟩
  | 59 => ⟨S8192, .i32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S1, .i32⟩
  | 69 => ⟨S_, .i32⟩
  | 70 => ⟨S8192x1, .i32⟩
  | 71 => ⟨S8192x1, .i1⟩
  | 72 => ⟨S1x1, .i32⟩
  | 73 => ⟨S8192x1, .i32⟩
  | 74 => ⟨S8192x1, .i1⟩
  | 75 => ⟨S8192x1, .i1⟩
  | 76 => ⟨S_, .i1⟩
  | 77 => ⟨S8192, .i1⟩
  | 78 => ⟨S8192x2048, .f32⟩
  | 79 => ⟨S8192x2048, .i1⟩
  | 80 => ⟨S_, .f32⟩
  | 81 => ⟨S8192x2048, .f32⟩
  | 82 => ⟨S8192x2048, .f32⟩
  | 83 => ⟨S8192x2048, .f32⟩
  | 84 => ⟨S1, .i32⟩
  | 85 => ⟨S_, .i32⟩
  | 86 => ⟨S8192, .i32⟩
  | 87 => ⟨S8192, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i1⟩
  | 99 => ⟨S_, .i32⟩
  | 100 => ⟨S8192, .i32⟩
  | 101 => ⟨S8192, .i1⟩
  | 102 => ⟨S_, .i32⟩
  | 103 => ⟨S_, .i1⟩
  | 104 => ⟨S8192, .i1⟩
  | 105 => ⟨S8192, .i1⟩
  | 106 => ⟨S8192, .i1⟩
  | 107 => ⟨S8192, .i32⟩
  | 108 => ⟨S8192, .i32⟩
  | 109 => ⟨S8192, .i32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S1, .i32⟩
  | 119 => ⟨S_, .i32⟩
  | 120 => ⟨S8192x1, .i32⟩
  | 121 => ⟨S8192x1, .i1⟩
  | 122 => ⟨S1x1, .i32⟩
  | 123 => ⟨S8192x1, .i32⟩
  | 124 => ⟨S8192x1, .i1⟩
  | 125 => ⟨S8192x1, .i1⟩
  | 126 => ⟨S_, .i1⟩
  | 127 => ⟨S8192, .i1⟩
  | _ => ⟨S8192, .i32⟩

abbrev hbmTy0_2 (i : Nat) : BufTy := match i % 128 with
  | 0 => ⟨S8192x2048, .f32⟩
  | 1 => ⟨S8192x2048, .i1⟩
  | 2 => ⟨S_, .f32⟩
  | 3 => ⟨S8192x2048, .f32⟩
  | 4 => ⟨S8192x2048, .f32⟩
  | 5 => ⟨S8192x2048, .f32⟩
  | 6 => ⟨S1, .i32⟩
  | 7 => ⟨S_, .i32⟩
  | 8 => ⟨S8192, .i32⟩
  | 9 => ⟨S8192, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i1⟩
  | 21 => ⟨S_, .i32⟩
  | 22 => ⟨S8192, .i32⟩
  | 23 => ⟨S8192, .i1⟩
  | 24 => ⟨S_, .i32⟩
  | 25 => ⟨S_, .i1⟩
  | 26 => ⟨S8192, .i1⟩
  | 27 => ⟨S8192, .i1⟩
  | 28 => ⟨S8192, .i1⟩
  | 29 => ⟨S8192, .i32⟩
  | 30 => ⟨S8192, .i32⟩
  | 31 => ⟨S8192, .i32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S1, .i32⟩
  | 41 => ⟨S_, .i32⟩
  | 42 => ⟨S8192x1, .i32⟩
  | 43 => ⟨S8192x1, .i1⟩
  | 44 => ⟨S1x1, .i32⟩
  | 45 => ⟨S8192x1, .i32⟩
  | 46 => ⟨S8192x1, .i1⟩
  | 47 => ⟨S8192x1, .i1⟩
  | 48 => ⟨S_, .i1⟩
  | 49 => ⟨S8192, .i1⟩
  | 50 => ⟨S8192x2048, .f32⟩
  | 51 => ⟨S8192x2048, .i1⟩
  | 52 => ⟨S_, .f32⟩
  | 53 => ⟨S8192x2048, .f32⟩
  | 54 => ⟨S8192x2048, .f32⟩
  | 55 => ⟨S8192x2048, .f32⟩
  | 56 => ⟨S1, .i32⟩
  | 57 => ⟨S_, .i32⟩
  | 58 => ⟨S8192, .i32⟩
  | 59 => ⟨S8192, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S8192, .i32⟩
  | 67 => ⟨S8192, .i32⟩
  | 68 => ⟨S_, .i32⟩
  | 69 => ⟨S8192, .i32⟩
  | 70 => ⟨S8192, .i1⟩
  | 71 => ⟨S_, .i32⟩
  | 72 => ⟨S8192, .i32⟩
  | 73 => ⟨S8192, .i1⟩
  | 74 => ⟨S_, .i32⟩
  | 75 => ⟨S_, .i1⟩
  | 76 => ⟨S8192, .i1⟩
  | 77 => ⟨S8192, .i1⟩
  | 78 => ⟨S8192, .i1⟩
  | 79 => ⟨S8192, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S1, .i32⟩
  | 91 => ⟨S_, .i32⟩
  | 92 => ⟨S8192x1, .i32⟩
  | 93 => ⟨S8192x1, .i1⟩
  | 94 => ⟨S1x1, .i32⟩
  | 95 => ⟨S8192x1, .i32⟩
  | 96 => ⟨S8192x1, .i1⟩
  | 97 => ⟨S8192x1, .i1⟩
  | 98 => ⟨S_, .i1⟩
  | 99 => ⟨S8192, .i1⟩
  | 100 => ⟨S8192x2048, .f32⟩
  | 101 => ⟨S8192x2048, .i1⟩
  | 102 => ⟨S_, .f32⟩
  | 103 => ⟨S8192x2048, .f32⟩
  | 104 => ⟨S8192x2048, .f32⟩
  | 105 => ⟨S8192x2048, .f32⟩
  | 106 => ⟨S1, .i32⟩
  | 107 => ⟨S_, .i32⟩
  | 108 => ⟨S8192, .i32⟩
  | 109 => ⟨S8192, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i1⟩
  | 121 => ⟨S_, .i32⟩
  | 122 => ⟨S8192, .i32⟩
  | 123 => ⟨S8192, .i1⟩
  | 124 => ⟨S_, .i32⟩
  | 125 => ⟨S_, .i1⟩
  | 126 => ⟨S8192, .i1⟩
  | 127 => ⟨S8192, .i1⟩
  | _ => ⟨S8192, .i32⟩

abbrev hbmTy0_3 (i : Nat) : BufTy := match i % 128 with
  | 0 => ⟨S8192, .i1⟩
  | 1 => ⟨S8192, .i32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S1, .i32⟩
  | 13 => ⟨S_, .i32⟩
  | 14 => ⟨S8192x1, .i32⟩
  | 15 => ⟨S8192x1, .i1⟩
  | 16 => ⟨S1x1, .i32⟩
  | 17 => ⟨S8192x1, .i32⟩
  | 18 => ⟨S8192x1, .i1⟩
  | 19 => ⟨S8192x1, .i1⟩
  | 20 => ⟨S_, .i1⟩
  | 21 => ⟨S8192, .i1⟩
  | 22 => ⟨S8192x2048, .f32⟩
  | 23 => ⟨S8192x2048, .i1⟩
  | 24 => ⟨S_, .f32⟩
  | 25 => ⟨S8192x2048, .f32⟩
  | 26 => ⟨S8192x2048, .f32⟩
  | 27 => ⟨S8192x2048, .f32⟩
  | _ => ⟨S8192, .i32⟩

abbrev hbmTy (i : Nat) : BufTy := match i / 128 with
  | 0 => hbmTy0_0 i
  | 1 => hbmTy0_1 i
  | 2 => hbmTy0_2 i
  | 3 => hbmTy0_3 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v5 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_c_0 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v12 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v13 : Ref sig .tc := ⟨.hbm, 110, rfl⟩
abbrev main_v14 : Ref sig .tc := ⟨.hbm, 111, rfl⟩
abbrev main_v15 : Ref sig .tc := ⟨.hbm, 112, rfl⟩
abbrev main_v16 : Ref sig .tc := ⟨.hbm, 113, rfl⟩
abbrev main_v17 : Ref sig .tc := ⟨.hbm, 114, rfl⟩
abbrev main_v18 : Ref sig .tc := ⟨.hbm, 115, rfl⟩
abbrev main_c_1 : Ref sig .tc := ⟨.hbm, 116, rfl⟩
abbrev main_call4_v0 : Ref sig .tc := ⟨.hbm, 117, rfl⟩
abbrev main_call4_c : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_c_1 : Ref sig .tc := ⟨.hbm, 124, rfl⟩
abbrev main_call4_v5 : Ref sig .tc := ⟨.hbm, 125, rfl⟩
abbrev main_call4_v6 : Ref sig .tc := ⟨.hbm, 126, rfl⟩
abbrev main_call4_c_2 : Ref sig .tc := ⟨.hbm, 127, rfl⟩
abbrev main_call4_v7 : Ref sig .tc := ⟨.hbm, 128, rfl⟩
abbrev main_call4_v8 : Ref sig .tc := ⟨.hbm, 129, rfl⟩
abbrev main_call4_c_3 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_v19 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_c_1 : Ref sig .tc := ⟨.hbm, 146, rfl⟩
abbrev main_call5_c_2 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_3 : Ref sig .tc := ⟨.hbm, 154, rfl⟩
abbrev main_call5_v12 : Ref sig .tc := ⟨.hbm, 155, rfl⟩
abbrev main_call5_v13 : Ref sig .tc := ⟨.hbm, 156, rfl⟩
abbrev main_call5_v14 : Ref sig .tc := ⟨.hbm, 157, rfl⟩
abbrev main_call5_cst : Ref sig .tc := ⟨.hbm, 158, rfl⟩
abbrev main_call5_v15 : Ref sig .tc := ⟨.hbm, 159, rfl⟩
abbrev main_v20 : Ref sig .tc := ⟨.hbm, 160, rfl⟩
abbrev main_v21 : Ref sig .tc := ⟨.hbm, 161, rfl⟩
abbrev main_v22 : Ref sig .tc := ⟨.hbm, 162, rfl⟩
abbrev main_v23 : Ref sig .tc := ⟨.hbm, 163, rfl⟩
abbrev main_v24 : Ref sig .tc := ⟨.hbm, 164, rfl⟩
abbrev main_v25 : Ref sig .tc := ⟨.hbm, 165, rfl⟩
abbrev main_c_2 : Ref sig .tc := ⟨.hbm, 166, rfl⟩
abbrev main_call6_v0 : Ref sig .tc := ⟨.hbm, 167, rfl⟩
abbrev main_call6_c : Ref sig .tc := ⟨.hbm, 168, rfl⟩
abbrev main_call6_v1 : Ref sig .tc := ⟨.hbm, 169, rfl⟩
abbrev main_call6_c_0 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_c_1 : Ref sig .tc := ⟨.hbm, 174, rfl⟩
abbrev main_call6_v5 : Ref sig .tc := ⟨.hbm, 175, rfl⟩
abbrev main_call6_v6 : Ref sig .tc := ⟨.hbm, 176, rfl⟩
abbrev main_call6_c_2 : Ref sig .tc := ⟨.hbm, 177, rfl⟩
abbrev main_call6_v7 : Ref sig .tc := ⟨.hbm, 178, rfl⟩
abbrev main_call6_v8 : Ref sig .tc := ⟨.hbm, 179, rfl⟩
abbrev main_call6_c_3 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_v12 : Ref sig .tc := ⟨.hbm, 184, rfl⟩
abbrev main_call6_v13 : Ref sig .tc := ⟨.hbm, 185, rfl⟩
abbrev main_call6_v14 : Ref sig .tc := ⟨.hbm, 186, rfl⟩
abbrev main_v26 : Ref sig .tc := ⟨.hbm, 187, rfl⟩
abbrev main_call7_c : Ref sig .tc := ⟨.hbm, 188, rfl⟩
abbrev main_call7_v0 : Ref sig .tc := ⟨.hbm, 189, rfl⟩
abbrev main_call7_v1 : Ref sig .tc := ⟨.hbm, 190, rfl⟩
abbrev main_call7_c_0 : Ref sig .tc := ⟨.hbm, 191, rfl⟩
abbrev main_call7_v2 : Ref sig .tc := ⟨.hbm, 192, rfl⟩
abbrev main_call7_v3 : Ref sig .tc := ⟨.hbm, 193, rfl⟩
abbrev main_call7_v4 : Ref sig .tc := ⟨.hbm, 194, rfl⟩
abbrev main_call7_v5 : Ref sig .tc := ⟨.hbm, 195, rfl⟩
abbrev main_call7_c_1 : Ref sig .tc := ⟨.hbm, 196, rfl⟩
abbrev main_call7_c_2 : Ref sig .tc := ⟨.hbm, 197, rfl⟩
abbrev main_call7_v6 : Ref sig .tc := ⟨.hbm, 198, rfl⟩
abbrev main_call7_v7 : Ref sig .tc := ⟨.hbm, 199, rfl⟩
abbrev main_call7_v8 : Ref sig .tc := ⟨.hbm, 200, rfl⟩
abbrev main_call7_v9 : Ref sig .tc := ⟨.hbm, 201, rfl⟩
abbrev main_call7_v10 : Ref sig .tc := ⟨.hbm, 202, rfl⟩
abbrev main_call7_v11 : Ref sig .tc := ⟨.hbm, 203, rfl⟩
abbrev main_call7_c_3 : Ref sig .tc := ⟨.hbm, 204, rfl⟩
abbrev main_call7_v12 : Ref sig .tc := ⟨.hbm, 205, rfl⟩
abbrev main_call7_v13 : Ref sig .tc := ⟨.hbm, 206, rfl⟩
abbrev main_call7_v14 : Ref sig .tc := ⟨.hbm, 207, rfl⟩
abbrev main_call7_cst : Ref sig .tc := ⟨.hbm, 208, rfl⟩
abbrev main_call7_v15 : Ref sig .tc := ⟨.hbm, 209, rfl⟩
abbrev main_v27 : Ref sig .tc := ⟨.hbm, 210, rfl⟩
abbrev main_v28 : Ref sig .tc := ⟨.hbm, 211, rfl⟩
abbrev main_v29 : Ref sig .tc := ⟨.hbm, 212, rfl⟩
abbrev main_v30 : Ref sig .tc := ⟨.hbm, 213, rfl⟩
abbrev main_v31 : Ref sig .tc := ⟨.hbm, 214, rfl⟩
abbrev main_v32 : Ref sig .tc := ⟨.hbm, 215, rfl⟩
abbrev main_c_3 : Ref sig .tc := ⟨.hbm, 216, rfl⟩
abbrev main_call8_v0 : Ref sig .tc := ⟨.hbm, 217, rfl⟩
abbrev main_call8_c : Ref sig .tc := ⟨.hbm, 218, rfl⟩
abbrev main_call8_v1 : Ref sig .tc := ⟨.hbm, 219, rfl⟩
abbrev main_call8_c_0 : Ref sig .tc := ⟨.hbm, 220, rfl⟩
abbrev main_call8_v2 : Ref sig .tc := ⟨.hbm, 221, rfl⟩
abbrev main_call8_v3 : Ref sig .tc := ⟨.hbm, 222, rfl⟩
abbrev main_call8_v4 : Ref sig .tc := ⟨.hbm, 223, rfl⟩
abbrev main_call8_c_1 : Ref sig .tc := ⟨.hbm, 224, rfl⟩
abbrev main_call8_v5 : Ref sig .tc := ⟨.hbm, 225, rfl⟩
abbrev main_call8_v6 : Ref sig .tc := ⟨.hbm, 226, rfl⟩
abbrev main_call8_c_2 : Ref sig .tc := ⟨.hbm, 227, rfl⟩
abbrev main_call8_v7 : Ref sig .tc := ⟨.hbm, 228, rfl⟩
abbrev main_call8_v8 : Ref sig .tc := ⟨.hbm, 229, rfl⟩
abbrev main_call8_c_3 : Ref sig .tc := ⟨.hbm, 230, rfl⟩
abbrev main_call8_v9 : Ref sig .tc := ⟨.hbm, 231, rfl⟩
abbrev main_call8_v10 : Ref sig .tc := ⟨.hbm, 232, rfl⟩
abbrev main_call8_v11 : Ref sig .tc := ⟨.hbm, 233, rfl⟩
abbrev main_call8_v12 : Ref sig .tc := ⟨.hbm, 234, rfl⟩
abbrev main_call8_v13 : Ref sig .tc := ⟨.hbm, 235, rfl⟩
abbrev main_call8_v14 : Ref sig .tc := ⟨.hbm, 236, rfl⟩
abbrev main_v33 : Ref sig .tc := ⟨.hbm, 237, rfl⟩
abbrev main_call9_c : Ref sig .tc := ⟨.hbm, 238, rfl⟩
abbrev main_call9_v0 : Ref sig .tc := ⟨.hbm, 239, rfl⟩
abbrev main_call9_v1 : Ref sig .tc := ⟨.hbm, 240, rfl⟩
abbrev main_call9_c_0 : Ref sig .tc := ⟨.hbm, 241, rfl⟩
abbrev main_call9_v2 : Ref sig .tc := ⟨.hbm, 242, rfl⟩
abbrev main_call9_v3 : Ref sig .tc := ⟨.hbm, 243, rfl⟩
abbrev main_call9_v4 : Ref sig .tc := ⟨.hbm, 244, rfl⟩
abbrev main_call9_v5 : Ref sig .tc := ⟨.hbm, 245, rfl⟩
abbrev main_call9_c_1 : Ref sig .tc := ⟨.hbm, 246, rfl⟩
abbrev main_call9_c_2 : Ref sig .tc := ⟨.hbm, 247, rfl⟩
abbrev main_call9_v6 : Ref sig .tc := ⟨.hbm, 248, rfl⟩
abbrev main_call9_v7 : Ref sig .tc := ⟨.hbm, 249, rfl⟩
abbrev main_call9_v8 : Ref sig .tc := ⟨.hbm, 250, rfl⟩
abbrev main_call9_v9 : Ref sig .tc := ⟨.hbm, 251, rfl⟩
abbrev main_call9_v10 : Ref sig .tc := ⟨.hbm, 252, rfl⟩
abbrev main_call9_v11 : Ref sig .tc := ⟨.hbm, 253, rfl⟩
abbrev main_call9_c_3 : Ref sig .tc := ⟨.hbm, 254, rfl⟩
abbrev main_call9_v12 : Ref sig .tc := ⟨.hbm, 255, rfl⟩
abbrev main_call9_v13 : Ref sig .tc := ⟨.hbm, 256, rfl⟩
abbrev main_call9_v14 : Ref sig .tc := ⟨.hbm, 257, rfl⟩
abbrev main_call9_cst : Ref sig .tc := ⟨.hbm, 258, rfl⟩
abbrev main_call9_v15 : Ref sig .tc := ⟨.hbm, 259, rfl⟩
abbrev main_v34 : Ref sig .tc := ⟨.hbm, 260, rfl⟩
abbrev main_v35 : Ref sig .tc := ⟨.hbm, 261, rfl⟩
abbrev main_v36 : Ref sig .tc := ⟨.hbm, 262, rfl⟩
abbrev main_v37 : Ref sig .tc := ⟨.hbm, 263, rfl⟩
abbrev main_v38 : Ref sig .tc := ⟨.hbm, 264, rfl⟩
abbrev main_v39 : Ref sig .tc := ⟨.hbm, 265, rfl⟩
abbrev main_c_4 : Ref sig .tc := ⟨.hbm, 266, rfl⟩
abbrev main_call10_v0 : Ref sig .tc := ⟨.hbm, 267, rfl⟩
abbrev main_call10_c : Ref sig .tc := ⟨.hbm, 268, rfl⟩
abbrev main_call10_v1 : Ref sig .tc := ⟨.hbm, 269, rfl⟩
abbrev main_call10_c_0 : Ref sig .tc := ⟨.hbm, 270, rfl⟩
abbrev main_call10_v2 : Ref sig .tc := ⟨.hbm, 271, rfl⟩
abbrev main_call10_v3 : Ref sig .tc := ⟨.hbm, 272, rfl⟩
abbrev main_call10_v4 : Ref sig .tc := ⟨.hbm, 273, rfl⟩
abbrev main_call10_c_1 : Ref sig .tc := ⟨.hbm, 274, rfl⟩
abbrev main_call10_v5 : Ref sig .tc := ⟨.hbm, 275, rfl⟩
abbrev main_call10_v6 : Ref sig .tc := ⟨.hbm, 276, rfl⟩
abbrev main_call10_c_2 : Ref sig .tc := ⟨.hbm, 277, rfl⟩
abbrev main_call10_v7 : Ref sig .tc := ⟨.hbm, 278, rfl⟩
abbrev main_call10_v8 : Ref sig .tc := ⟨.hbm, 279, rfl⟩
abbrev main_call10_c_3 : Ref sig .tc := ⟨.hbm, 280, rfl⟩
abbrev main_call10_v9 : Ref sig .tc := ⟨.hbm, 281, rfl⟩
abbrev main_call10_v10 : Ref sig .tc := ⟨.hbm, 282, rfl⟩
abbrev main_call10_v11 : Ref sig .tc := ⟨.hbm, 283, rfl⟩
abbrev main_call10_v12 : Ref sig .tc := ⟨.hbm, 284, rfl⟩
abbrev main_call10_v13 : Ref sig .tc := ⟨.hbm, 285, rfl⟩
abbrev main_call10_v14 : Ref sig .tc := ⟨.hbm, 286, rfl⟩
abbrev main_v40 : Ref sig .tc := ⟨.hbm, 287, rfl⟩
abbrev main_call11_c : Ref sig .tc := ⟨.hbm, 288, rfl⟩
abbrev main_call11_v0 : Ref sig .tc := ⟨.hbm, 289, rfl⟩
abbrev main_call11_v1 : Ref sig .tc := ⟨.hbm, 290, rfl⟩
abbrev main_call11_c_0 : Ref sig .tc := ⟨.hbm, 291, rfl⟩
abbrev main_call11_v2 : Ref sig .tc := ⟨.hbm, 292, rfl⟩
abbrev main_call11_v3 : Ref sig .tc := ⟨.hbm, 293, rfl⟩
abbrev main_call11_v4 : Ref sig .tc := ⟨.hbm, 294, rfl⟩
abbrev main_call11_v5 : Ref sig .tc := ⟨.hbm, 295, rfl⟩
abbrev main_call11_c_1 : Ref sig .tc := ⟨.hbm, 296, rfl⟩
abbrev main_call11_c_2 : Ref sig .tc := ⟨.hbm, 297, rfl⟩
abbrev main_call11_v6 : Ref sig .tc := ⟨.hbm, 298, rfl⟩
abbrev main_call11_v7 : Ref sig .tc := ⟨.hbm, 299, rfl⟩
abbrev main_call11_v8 : Ref sig .tc := ⟨.hbm, 300, rfl⟩
abbrev main_call11_v9 : Ref sig .tc := ⟨.hbm, 301, rfl⟩
abbrev main_call11_v10 : Ref sig .tc := ⟨.hbm, 302, rfl⟩
abbrev main_call11_v11 : Ref sig .tc := ⟨.hbm, 303, rfl⟩
abbrev main_call11_c_3 : Ref sig .tc := ⟨.hbm, 304, rfl⟩
abbrev main_call11_v12 : Ref sig .tc := ⟨.hbm, 305, rfl⟩
abbrev main_call11_v13 : Ref sig .tc := ⟨.hbm, 306, rfl⟩
abbrev main_call11_v14 : Ref sig .tc := ⟨.hbm, 307, rfl⟩
abbrev main_call11_cst : Ref sig .tc := ⟨.hbm, 308, rfl⟩
abbrev main_call11_v15 : Ref sig .tc := ⟨.hbm, 309, rfl⟩
abbrev main_v41 : Ref sig .tc := ⟨.hbm, 310, rfl⟩
abbrev main_v42 : Ref sig .tc := ⟨.hbm, 311, rfl⟩
abbrev main_v43 : Ref sig .tc := ⟨.hbm, 312, rfl⟩
abbrev main_v44 : Ref sig .tc := ⟨.hbm, 313, rfl⟩
abbrev main_v45 : Ref sig .tc := ⟨.hbm, 314, rfl⟩
abbrev main_v46 : Ref sig .tc := ⟨.hbm, 315, rfl⟩
abbrev main_c_5 : Ref sig .tc := ⟨.hbm, 316, rfl⟩
abbrev main_call12_v0 : Ref sig .tc := ⟨.hbm, 317, rfl⟩
abbrev main_call12_c : Ref sig .tc := ⟨.hbm, 318, rfl⟩
abbrev main_call12_v1 : Ref sig .tc := ⟨.hbm, 319, rfl⟩
abbrev main_call12_c_0 : Ref sig .tc := ⟨.hbm, 320, rfl⟩
abbrev main_call12_v2 : Ref sig .tc := ⟨.hbm, 321, rfl⟩
abbrev main_call12_v3 : Ref sig .tc := ⟨.hbm, 322, rfl⟩
abbrev main_call12_v4 : Ref sig .tc := ⟨.hbm, 323, rfl⟩
abbrev main_call12_c_1 : Ref sig .tc := ⟨.hbm, 324, rfl⟩
abbrev main_call12_v5 : Ref sig .tc := ⟨.hbm, 325, rfl⟩
abbrev main_call12_v6 : Ref sig .tc := ⟨.hbm, 326, rfl⟩
abbrev main_call12_c_2 : Ref sig .tc := ⟨.hbm, 327, rfl⟩
abbrev main_call12_v7 : Ref sig .tc := ⟨.hbm, 328, rfl⟩
abbrev main_call12_v8 : Ref sig .tc := ⟨.hbm, 329, rfl⟩
abbrev main_call12_c_3 : Ref sig .tc := ⟨.hbm, 330, rfl⟩
abbrev main_call12_v9 : Ref sig .tc := ⟨.hbm, 331, rfl⟩
abbrev main_call12_v10 : Ref sig .tc := ⟨.hbm, 332, rfl⟩
abbrev main_call12_v11 : Ref sig .tc := ⟨.hbm, 333, rfl⟩
abbrev main_call12_v12 : Ref sig .tc := ⟨.hbm, 334, rfl⟩
abbrev main_call12_v13 : Ref sig .tc := ⟨.hbm, 335, rfl⟩
abbrev main_call12_v14 : Ref sig .tc := ⟨.hbm, 336, rfl⟩
abbrev main_v47 : Ref sig .tc := ⟨.hbm, 337, rfl⟩
abbrev main_call13_c : Ref sig .tc := ⟨.hbm, 338, rfl⟩
abbrev main_call13_v0 : Ref sig .tc := ⟨.hbm, 339, rfl⟩
abbrev main_call13_v1 : Ref sig .tc := ⟨.hbm, 340, rfl⟩
abbrev main_call13_c_0 : Ref sig .tc := ⟨.hbm, 341, rfl⟩
abbrev main_call13_v2 : Ref sig .tc := ⟨.hbm, 342, rfl⟩
abbrev main_call13_v3 : Ref sig .tc := ⟨.hbm, 343, rfl⟩
abbrev main_call13_v4 : Ref sig .tc := ⟨.hbm, 344, rfl⟩
abbrev main_call13_v5 : Ref sig .tc := ⟨.hbm, 345, rfl⟩
abbrev main_call13_c_1 : Ref sig .tc := ⟨.hbm, 346, rfl⟩
abbrev main_call13_c_2 : Ref sig .tc := ⟨.hbm, 347, rfl⟩
abbrev main_call13_v6 : Ref sig .tc := ⟨.hbm, 348, rfl⟩
abbrev main_call13_v7 : Ref sig .tc := ⟨.hbm, 349, rfl⟩
abbrev main_call13_v8 : Ref sig .tc := ⟨.hbm, 350, rfl⟩
abbrev main_call13_v9 : Ref sig .tc := ⟨.hbm, 351, rfl⟩
abbrev main_call13_v10 : Ref sig .tc := ⟨.hbm, 352, rfl⟩
abbrev main_call13_v11 : Ref sig .tc := ⟨.hbm, 353, rfl⟩
abbrev main_call13_c_3 : Ref sig .tc := ⟨.hbm, 354, rfl⟩
abbrev main_call13_v12 : Ref sig .tc := ⟨.hbm, 355, rfl⟩
abbrev main_call13_v13 : Ref sig .tc := ⟨.hbm, 356, rfl⟩
abbrev main_call13_v14 : Ref sig .tc := ⟨.hbm, 357, rfl⟩
abbrev main_call13_cst : Ref sig .tc := ⟨.hbm, 358, rfl⟩
abbrev main_call13_v15 : Ref sig .tc := ⟨.hbm, 359, rfl⟩
abbrev main_v48 : Ref sig .tc := ⟨.hbm, 360, rfl⟩
abbrev main_v49 : Ref sig .tc := ⟨.hbm, 361, rfl⟩
abbrev main_v50 : Ref sig .tc := ⟨.hbm, 362, rfl⟩
abbrev main_v51 : Ref sig .tc := ⟨.hbm, 363, rfl⟩
abbrev main_v52 : Ref sig .tc := ⟨.hbm, 364, rfl⟩
abbrev main_v53 : Ref sig .tc := ⟨.hbm, 365, rfl⟩
abbrev main_c_6 : Ref sig .tc := ⟨.hbm, 366, rfl⟩
abbrev main_call14_v0 : Ref sig .tc := ⟨.hbm, 367, rfl⟩
abbrev main_call14_c : Ref sig .tc := ⟨.hbm, 368, rfl⟩
abbrev main_call14_v1 : Ref sig .tc := ⟨.hbm, 369, rfl⟩
abbrev main_call14_c_0 : Ref sig .tc := ⟨.hbm, 370, rfl⟩
abbrev main_call14_v2 : Ref sig .tc := ⟨.hbm, 371, rfl⟩
abbrev main_call14_v3 : Ref sig .tc := ⟨.hbm, 372, rfl⟩
abbrev main_call14_v4 : Ref sig .tc := ⟨.hbm, 373, rfl⟩
abbrev main_call14_c_1 : Ref sig .tc := ⟨.hbm, 374, rfl⟩
abbrev main_call14_v5 : Ref sig .tc := ⟨.hbm, 375, rfl⟩
abbrev main_call14_v6 : Ref sig .tc := ⟨.hbm, 376, rfl⟩
abbrev main_call14_c_2 : Ref sig .tc := ⟨.hbm, 377, rfl⟩
abbrev main_call14_v7 : Ref sig .tc := ⟨.hbm, 378, rfl⟩
abbrev main_call14_v8 : Ref sig .tc := ⟨.hbm, 379, rfl⟩
abbrev main_call14_c_3 : Ref sig .tc := ⟨.hbm, 380, rfl⟩
abbrev main_call14_v9 : Ref sig .tc := ⟨.hbm, 381, rfl⟩
abbrev main_call14_v10 : Ref sig .tc := ⟨.hbm, 382, rfl⟩
abbrev main_call14_v11 : Ref sig .tc := ⟨.hbm, 383, rfl⟩
abbrev main_call14_v12 : Ref sig .tc := ⟨.hbm, 384, rfl⟩
abbrev main_call14_v13 : Ref sig .tc := ⟨.hbm, 385, rfl⟩
abbrev main_call14_v14 : Ref sig .tc := ⟨.hbm, 386, rfl⟩
abbrev main_v54 : Ref sig .tc := ⟨.hbm, 387, rfl⟩
abbrev main_call15_c : Ref sig .tc := ⟨.hbm, 388, rfl⟩
abbrev main_call15_v0 : Ref sig .tc := ⟨.hbm, 389, rfl⟩
abbrev main_call15_v1 : Ref sig .tc := ⟨.hbm, 390, rfl⟩
abbrev main_call15_c_0 : Ref sig .tc := ⟨.hbm, 391, rfl⟩
abbrev main_call15_v2 : Ref sig .tc := ⟨.hbm, 392, rfl⟩
abbrev main_call15_v3 : Ref sig .tc := ⟨.hbm, 393, rfl⟩
abbrev main_call15_v4 : Ref sig .tc := ⟨.hbm, 394, rfl⟩
abbrev main_call15_v5 : Ref sig .tc := ⟨.hbm, 395, rfl⟩
abbrev main_call15_c_1 : Ref sig .tc := ⟨.hbm, 396, rfl⟩
abbrev main_call15_c_2 : Ref sig .tc := ⟨.hbm, 397, rfl⟩
abbrev main_call15_v6 : Ref sig .tc := ⟨.hbm, 398, rfl⟩
abbrev main_call15_v7 : Ref sig .tc := ⟨.hbm, 399, rfl⟩
abbrev main_call15_v8 : Ref sig .tc := ⟨.hbm, 400, rfl⟩
abbrev main_call15_v9 : Ref sig .tc := ⟨.hbm, 401, rfl⟩
abbrev main_call15_v10 : Ref sig .tc := ⟨.hbm, 402, rfl⟩
abbrev main_call15_v11 : Ref sig .tc := ⟨.hbm, 403, rfl⟩
abbrev main_call15_c_3 : Ref sig .tc := ⟨.hbm, 404, rfl⟩
abbrev main_call15_v12 : Ref sig .tc := ⟨.hbm, 405, rfl⟩
abbrev main_call15_v13 : Ref sig .tc := ⟨.hbm, 406, rfl⟩
abbrev main_call15_v14 : Ref sig .tc := ⟨.hbm, 407, rfl⟩
abbrev main_call15_cst : Ref sig .tc := ⟨.hbm, 408, rfl⟩
abbrev main_call15_v15 : Ref sig .tc := ⟨.hbm, 409, rfl⟩
abbrev main_v55 : Ref sig .tc := ⟨.hbm, 410, rfl⟩
abbrev main_v56 : Ref sig .tc := ⟨.hbm, 411, rfl⟩

abbrev nD : Nat := 1
abbrev τ : Topo := Topo.v7x

variable {F : FTy → Type} [FloatOps F]
-- ==== Proof.Ideal.Names.lean ====
/-
  Names for what the two kernel bodies of this program touch: the piece of the result that step `k` writes for
  group `r`, the slot of the accumulator a step uses, and the counting cell of a copy.
-/
module

public import proofs.«01_k».proof.Defs
public import proofs.«01_k».proof.Proof.Gen.KernelIdeal.Launch
public import proofs.«01_k».proof.Proof.Gen.KernelIdeal.Skeleton
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The offsets -/

/-- Where the piece of group `r` and column block `k` starts in the result. -/
abbrev dstOff (r k : Fin 4) : Fin 2 → Nat := ![2048 * r.val, 512 * k.val]
theorem dstOff_inb (r k : Fin 4) : ∀ a, dstOff r k a + S2048x512.size a ≤ S8192x2048.size a := by
  revert r k; decide
/-- Where slot `b` of the accumulator starts. -/
abbrev slotOff (b : Fin 2) : Fin 3 → Nat := ![b.val, 0, 0]
theorem slotOff_inb (b : Fin 2) : ∀ a, slotOff b a + S1x2048x512.size a ≤ S2x2048x512.size a := by
  revert b; decide
/-- Which counting cell slot `b` uses for group `r`. -/
abbrev semOff (b : Fin 2) (r : Fin 4) : Fin 2 → Nat := ![b.val, r.val]
theorem semOff_inb (b : Fin 2) (r : Fin 4) : ∀ a, semOff b r a + S1x1.size a ≤ S2x4.size a := by
  revert b r; decide

section Names
variable (M : Memref sig .tc .hbm S8192x2048 .f32) (A : Memref sig .tc .vmem S2x2048x512 .f32) (D : DmaSems sig S2x4)

/-- The piece of the result `M` at group `r` and column block `k`. -/
def dst (r k : Fin 4) : Memref sig .tc .hbm S2048x512 .f32 :=
  M.slice (Rect.unit (s := S8192x2048) (dstOff r k) S2048x512.size (dstOff_inb r k)) (fun _ => rfl)
/-- Slot `b` of the accumulator `A`. -/
def slot (b : Fin 2) : Memref sig .tc .vmem S2048x512 .f32 :=
  (A.slice (Rect.unit (s := S2x2048x512) (slotOff b) S1x2048x512.size (slotOff_inb b)) (fun _ => rfl)).squeeze S2048x512 squeezes_S1x2048x512_S2048x512
/-- The counting cell of slot `b` and group `r`. -/
def csm (b : Fin 2) (r : Fin 4) : DmaSems sig S_ :=
  (D.slice (Rect.unit (s := S2x4) (semOff b r) S1x1.size (semOff_inb b r))).squeeze S_ squeezes_S1x1_S_

/-- `off` is the offset of the cell of slot `b` and group `r`. -/
class SemAt (off : Fin 2 → Nat) (b : outParam (Fin 2)) (r : outParam (Fin 4)) : Prop where
  eq : off = semOff b r
/-- `off`, when it is in range, is the offset of the piece of group `r` and column block `k`. -/
class DstAt (off : Fin 2 → Nat) (r k : outParam (Fin 4)) : Prop where
  eq : (∀ a, off a + S2048x512.size a ≤ S8192x2048.size a) → off = dstOff r k
/-- `off` is the offset of slot `b`. -/
class SlotAt (off : Fin 3 → Nat) (b : outParam (Fin 2)) : Prop where
  eq : off = slotOff b

/-- A cell the body takes is the named cell. -/
@[sl_canon] theorem csm_canon {off : Fin 2 → Nat} {b : Fin 2} {r : Fin 4} [h : SemAt off b r] (hh) :
    (D.slice (Rect.unit (s := S2x4) off S1x1.size hh)).squeeze S_ squeezes_S1x1_S_ = csm D b r :=
  congrArg (fun X : DmaSems sig S1x1 => X.squeeze S_ squeezes_S1x1_S_) (SemArray.slice_unit_congr _ h.eq _ _)
/-- A slot the body takes is the named slot. -/
@[sl_canon] theorem slot_canon {off : Fin 3 → Nat} {b : Fin 2} [h : SlotAt off b] (hh hs) :
    (A.slice (Rect.unit (s := S2x2048x512) off S1x2048x512.size hh) hs).squeeze S2048x512 squeezes_S1x2048x512_S2048x512 = slot A b :=
  congrArg (fun X : Memref sig .tc .vmem S1x2048x512 .f32 => X.squeeze S2048x512 squeezes_S1x2048x512_S2048x512) (Memref.slice_unit_congr _ h.eq _ _ _ _)
/-- A piece the body takes is the named piece. -/
@[sl_canon] theorem dst_canon {off : Fin 2 → Nat} {r k : Fin 4} [h : DstAt off r k] (hh hs) :
    M.slice (Rect.unit (s := S8192x2048) off S2048x512.size hh) hs = dst M r k :=
  Memref.slice_unit_congr _ (h.eq hh) _ _ _ (fun _ => rfl)

end Names

/-! ## The offsets the bodies compute -/

instance (i : grid0.Coords) : SemAt (k0_off1 i) (Ring.sl 2 (i 0).val) 0 := ⟨by revert i; decide +kernel⟩
instance (i : grid0.Coords) : SemAt (k0_off4 i) (Ring.sl 2 (i 0).val) 1 := ⟨by revert i; decide +kernel⟩
instance (i : grid0.Coords) : SemAt (k0_off6 i) (Ring.sl 2 (i 0).val) 2 := ⟨by revert i; decide +kernel⟩
instance (i : grid0.Coords) : SemAt (k0_off8 i) (Ring.sl 2 (i 0).val) 3 := ⟨by revert i; decide +kernel⟩
instance (i : grid0.Coords) : SemAt (k0_off11 i) (Ring.sl 2 (i 0).val) 0 := ⟨by revert i; decide +kernel⟩
instance (i : grid0.Coords) : SemAt (k0_off14 i) (Ring.sl 2 (i 0).val) 1 := ⟨by revert i; decide +kernel⟩
instance (i : grid0.Coords) : SemAt (k0_off16 i) (Ring.sl 2 (i 0).val) 2 := ⟨by revert i; decide +kernel⟩
instance (i : grid0.Coords) : SemAt (k0_off18 i) (Ring.sl 2 (i 0).val) 3 := ⟨by revert i; decide +kernel⟩
instance (i : grid0.Coords) : SemAt (k0_off20 i) (Ring.sl 2 ((i 0).val + 1)) 0 := ⟨by revert i; decide +kernel⟩
instance (i : grid0.Coords) : SemAt (k0_off23 i) (Ring.sl 2 ((i 0).val + 1)) 1 := ⟨by revert i; decide +kernel⟩
instance (i : grid0.Coords) : SemAt (k0_off25 i) (Ring.sl 2 ((i 0).val + 1)) 2 := ⟨by revert i; decide +kernel⟩
instance (i : grid0.Coords) : SemAt (k0_off27 i) (Ring.sl 2 ((i 0).val + 1)) 3 := ⟨by revert i; decide +kernel⟩
instance (i : grid0.Coords) : SemAt (k0_off29 i) (Ring.sl 2 (i 0).val) 0 := ⟨by revert i; decide +kernel⟩
instance (i : grid0.Coords) : SemAt (k0_off32 i) (Ring.sl 2 (i 0).val) 1 := ⟨by revert i; decide +kernel⟩
instance (i : grid0.Coords) : SemAt (k0_off34 i) (Ring.sl 2 (i 0).val) 2 := ⟨by revert i; decide +kernel⟩
instance (i : grid0.Coords) : SemAt (k0_off36 i) (Ring.sl 2 (i 0).val) 3 := ⟨by revert i; decide +kernel⟩
instance (i : grid0.Coords) : DstAt (k0_off2 i) 0 (Ring.bk 4 ((i 0).val - 2)) := ⟨by revert i; decide +kernel⟩
instance (i : grid0.Coords) : DstAt (k0_off5 i) 1 (Ring.bk 4 ((i 0).val - 2)) := ⟨by revert i; decide +kernel⟩
instance (i : grid0.Coords) : DstAt (k0_off7 i) 2 (Ring.bk 4 ((i 0).val - 2)) := ⟨by revert i; decide +kernel⟩
instance (i : grid0.Coords) : DstAt (k0_off9 i) 3 (Ring.bk 4 ((i 0).val - 2)) := ⟨by revert i; decide +kernel⟩
instance (i : grid0.Coords) : DstAt (k0_off12 i) 0 (Ring.bk 4 (i 0).val) := ⟨by revert i; decide +kernel⟩
instance (i : grid0.Coords) : DstAt (k0_off15 i) 1 (Ring.bk 4 (i 0).val) := ⟨by revert i; decide +kernel⟩
instance (i : grid0.Coords) : DstAt (k0_off17 i) 2 (Ring.bk 4 (i 0).val) := ⟨by revert i; decide +kernel⟩
instance (i : grid0.Coords) : DstAt (k0_off19 i) 3 (Ring.bk 4 (i 0).val) := ⟨by revert i; decide +kernel⟩
instance (i : grid0.Coords) : DstAt (k0_off21 i) 0 (Ring.bk 4 ((i 0).val - 1)) := ⟨by revert i; decide +kernel⟩
instance (i : grid0.Coords) : DstAt (k0_off24 i) 1 (Ring.bk 4 ((i 0).val - 1)) := ⟨by revert i; decide +kernel⟩
instance (i : grid0.Coords) : DstAt (k0_off26 i) 2 (Ring.bk 4 ((i 0).val - 1)) := ⟨by revert i; decide +kernel⟩
instance (i : grid0.Coords) : DstAt (k0_off28 i) 3 (Ring.bk 4 ((i 0).val - 1)) := ⟨by revert i; decide +kernel⟩
instance (i : grid0.Coords) : DstAt (k0_off30 i) 0 (Ring.bk 4 (i 0).val) := ⟨by revert i; decide +kernel⟩
instance (i : grid0.Coords) : DstAt (k0_off33 i) 1 (Ring.bk 4 (i 0).val) := ⟨by revert i; decide +kernel⟩
instance (i : grid0.Coords) : DstAt (k0_off35 i) 2 (Ring.bk 4 (i 0).val) := ⟨by revert i; decide +kernel⟩
instance (i : grid0.Coords) : DstAt (k0_off37 i) 3 (Ring.bk 4 (i 0).val) := ⟨by revert i; decide +kernel⟩
instance (i : grid0.Coords) : SlotAt (k0_off3 i) (Ring.sl 2 (i 0).val) := ⟨by revert i; decide +kernel⟩
instance (i : grid0.Coords) : SlotAt (k0_off10 i) (Ring.sl 2 (i 0).val) := ⟨by revert i; decide +kernel⟩
instance (i : grid0.Coords) : SlotAt (k0_off13 i) (Ring.sl 2 (i 0).val) := ⟨by revert i; decide +kernel⟩
instance (i : grid0.Coords) : SlotAt (k0_off22 i) (Ring.sl 2 ((i 0).val + 1)) := ⟨by revert i; decide +kernel⟩
instance (i : grid0.Coords) : SlotAt (k0_off31 i) (Ring.sl 2 (i 0).val) := ⟨by revert i; decide +kernel⟩
instance (i : grid1.Coords) : SemAt (k1_off1 i) (Ring.sl 2 (i 0).val) 0 := ⟨by revert i; decide +kernel⟩
instance (i : grid1.Coords) : SemAt (k1_off4 i) (Ring.sl 2 (i 0).val) 1 := ⟨by revert i; decide +kernel⟩
instance (i : grid1.Coords) : SemAt (k1_off6 i) (Ring.sl 2 (i 0).val) 2 := ⟨by revert i; decide +kernel⟩
instance (i : grid1.Coords) : SemAt (k1_off8 i) (Ring.sl 2 (i 0).val) 3 := ⟨by revert i; decide +kernel⟩
instance (i : grid1.Coords) : SemAt (k1_off11 i) (Ring.sl 2 (i 0).val) 0 := ⟨by revert i; decide +kernel⟩
instance (i : grid1.Coords) : SemAt (k1_off14 i) (Ring.sl 2 (i 0).val) 1 := ⟨by revert i; decide +kernel⟩
instance (i : grid1.Coords) : SemAt (k1_off16 i) (Ring.sl 2 (i 0).val) 2 := ⟨by revert i; decide +kernel⟩
instance (i : grid1.Coords) : SemAt (k1_off18 i) (Ring.sl 2 (i 0).val) 3 := ⟨by revert i; decide +kernel⟩
instance (i : grid1.Coords) : SemAt (k1_off20 i) (Ring.sl 2 ((i 0).val + 1)) 0 := ⟨by revert i; decide +kernel⟩
instance (i : grid1.Coords) : SemAt (k1_off23 i) (Ring.sl 2 ((i 0).val + 1)) 1 := ⟨by revert i; decide +kernel⟩
instance (i : grid1.Coords) : SemAt (k1_off25 i) (Ring.sl 2 ((i 0).val + 1)) 2 := ⟨by revert i; decide +kernel⟩
instance (i : grid1.Coords) : SemAt (k1_off27 i) (Ring.sl 2 ((i 0).val + 1)) 3 := ⟨by revert i; decide +kernel⟩
instance (i : grid1.Coords) : SemAt (k1_off29 i) (Ring.sl 2 (i 0).val) 0 := ⟨by revert i; decide +kernel⟩
instance (i : grid1.Coords) : SemAt (k1_off32 i) (Ring.sl 2 (i 0).val) 1 := ⟨by revert i; decide +kernel⟩
instance (i : grid1.Coords) : SemAt (k1_off34 i) (Ring.sl 2 (i 0).val) 2 := ⟨by revert i; decide +kernel⟩
instance (i : grid1.Coords) : SemAt (k1_off36 i) (Ring.sl 2 (i 0).val) 3 := ⟨by revert i; decide +kernel⟩
instance (i : grid1.Coords) : DstAt (k1_off2 i) 0 (Ring.bk 4 ((i 0).val - 2)) := ⟨by revert i; decide +kernel⟩
instance (i : grid1.Coords) : DstAt (k1_off5 i) 1 (Ring.bk 4 ((i 0).val - 2)) := ⟨by revert i; decide +kernel⟩
instance (i : grid1.Coords) : DstAt (k1_off7 i) 2 (Ring.bk 4 ((i 0).val - 2)) := ⟨by revert i; decide +kernel⟩
instance (i : grid1.Coords) : DstAt (k1_off9 i) 3 (Ring.bk 4 ((i 0).val - 2)) := ⟨by revert i; decide +kernel⟩
instance (i : grid1.Coords) : DstAt (k1_off12 i) 0 (Ring.bk 4 (i 0).val) := ⟨by revert i; decide +kernel⟩
instance (i : grid1.Coords) : DstAt (k1_off15 i) 1 (Ring.bk 4 (i 0).val) := ⟨by revert i; decide +kernel⟩
instance (i : grid1.Coords) : DstAt (k1_off17 i) 2 (Ring.bk 4 (i 0).val) := ⟨by revert i; decide +kernel⟩
instance (i : grid1.Coords) : DstAt (k1_off19 i) 3 (Ring.bk 4 (i 0).val) := ⟨by revert i; decide +kernel⟩
instance (i : grid1.Coords) : DstAt (k1_off21 i) 0 (Ring.bk 4 ((i 0).val - 1)) := ⟨by revert i; decide +kernel⟩
instance (i : grid1.Coords) : DstAt (k1_off24 i) 1 (Ring.bk 4 ((i 0).val - 1)) := ⟨by revert i; decide +kernel⟩
instance (i : grid1.Coords) : DstAt (k1_off26 i) 2 (Ring.bk 4 ((i 0).val - 1)) := ⟨by revert i; decide +kernel⟩
instance (i : grid1.Coords) : DstAt (k1_off28 i) 3 (Ring.bk 4 ((i 0).val - 1)) := ⟨by revert i; decide +kernel⟩
instance (i : grid1.Coords) : DstAt (k1_off30 i) 0 (Ring.bk 4 (i 0).val) := ⟨by revert i; decide +kernel⟩
instance (i : grid1.Coords) : DstAt (k1_off33 i) 1 (Ring.bk 4 (i 0).val) := ⟨by revert i; decide +kernel⟩
instance (i : grid1.Coords) : DstAt (k1_off35 i) 2 (Ring.bk 4 (i 0).val) := ⟨by revert i; decide +kernel⟩
instance (i : grid1.Coords) : DstAt (k1_off37 i) 3 (Ring.bk 4 (i 0).val) := ⟨by revert i; decide +kernel⟩
instance (i : grid1.Coords) : SlotAt (k1_off3 i) (Ring.sl 2 (i 0).val) := ⟨by revert i; decide +kernel⟩
instance (i : grid1.Coords) : SlotAt (k1_off10 i) (Ring.sl 2 (i 0).val) := ⟨by revert i; decide +kernel⟩
instance (i : grid1.Coords) : SlotAt (k1_off13 i) (Ring.sl 2 (i 0).val) := ⟨by revert i; decide +kernel⟩
instance (i : grid1.Coords) : SlotAt (k1_off22 i) (Ring.sl 2 ((i 0).val + 1)) := ⟨by revert i; decide +kernel⟩
instance (i : grid1.Coords) : SlotAt (k1_off31 i) (Ring.sl 2 (i 0).val) := ⟨by revert i; decide +kernel⟩
instance (i : grid0.Coords) : ClosedOff (k0_off10 i) := ⟨slotOff (Ring.sl 2 (i 0).val), SlotAt.eq⟩
instance (i : grid1.Coords) : ClosedOff (k1_off10 i) := ⟨slotOff (Ring.sl 2 (i 0).val), SlotAt.eq⟩
instance (b : Fin 2) : ClosedOff (slotOff b) := ⟨slotOff b, rfl⟩

end Cert.KernelIdeal.Own

end
-- ==== Proof.Ideal.Steps.lean ====
/-
  The pieces of memory that the ring of copies of one pipeline is made of, written for any result `M`, accumulator
  `A` and counting cells `D`: a free slot, a step in flight, pieces not yet written and pieces written.
-/
module

public import proofs.«01_k».proof.Proof.Ideal.Names

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one part for the launch, one for the two pipelines, and the counters of the copies. -/
abbrev UU (nD : Nat) (τ : Topo) : Type := UR sig nD τ × (UR sig nD τ × Counters)
local notation "𝕄" => MT nD τ sig Unit (Elt F) ℕ (UU nD τ) ℕ
abbrev 𝒱₀ : Variants := Variants.none

section
variable (c : Dev nD)
  (M : Memref sig .tc .hbm S8192x2048 .f32) (A : Memref sig .tc .vmem S2x2048x512 .f32) (D : DmaSems sig S2x4)

/-- Slot `b` of the accumulator, held at share `q`. -/
abbrev slotP (b : Fin 2) (q : PosShare TreeShare) (f : Buf (Elt F) ((slot A b).view.loc (c : Thread nD τ))) : sProp 𝕄 := (slot A b).view.loc (c : Thread nD τ) ↦[(slot A b).view.set]{q} f
/-- The piece of the result of group `r` and column block `k`. -/
abbrev dstP (r k : Fin 4) (f : Buf (Elt F) ((dst M r k).view.loc (c : Thread nD τ))) : sProp 𝕄 := (dst M r k).view.loc (c : Thread nD τ) ↦[(dst M r k).view.set]{fullShare} f
/-- The counting cell of slot `b` and group `r`, reading zero. -/
abbrev cellP (b : Fin 2) (r : Fin 4) : sProp 𝕄 := semVal ((c : Thread nD τ), SemLoc.dma (csm D b r).sem) 0
/-- A whole buffer. -/
abbrev inP {sp : Space} {s : Shape} {e : EltTy} (W : Memref sig .tc sp s e) (g : Buf (Elt F) (W.view.loc (c : Thread nD τ))) : sProp 𝕄 := W.view.loc (c : Thread nD τ) ↦[W.view.set]{fullShare} g

/-- A free slot: its four cells read zero and its elements are held. -/
def freeR (b : Fin 2) : sProp 𝕄 :=
  iprop((∃ f, slotP c A b fullShare f) ∗ (cellP c D b 0 ∗ cellP c D b 1 ∗ cellP c D b 2 ∗ cellP c D b 3))
/-- The four pieces of a column block, at any contents. -/
def aheadR (k : Fin 4) : sProp 𝕄 :=
  iprop((∃ f, dstP c M 0 k f) ∗ (∃ f, dstP c M 1 k f) ∗ (∃ f, dstP c M 2 k f) ∗ (∃ f, dstP c M 3 k f))
variable (G : Buf (Elt F) (M.view.loc (c : Thread nD τ)))
/-- The four pieces of a column block, at the contents `G`. -/
def behindR (k : Fin 4) : sProp 𝕄 :=
  iprop(dstP c M 0 k G ∗ dstP c M 1 k G ∗ dstP c M 2 k G ∗ dstP c M 3 k G)
/-- The copy of slot `b` to group `r` of column block `k`, in flight: it brings the piece at `G` and a share of the slot. -/
abbrev flightR (b : Fin 2) (r k : Fin 4) (q : PosShare TreeShare) (f : Buf (Elt F) ((slot A b).view.loc (c : Thread nD τ))) : sProp 𝕄 :=
  Transfers.Flight countersEmb (c : Thread nD τ) (SemLoc.dma (csm D b r).sem) () 131072 iprop(dstP c M r k G ∗ slotP c A b q f)
/-- The four copies of a step in flight, and what is left of the slot they read. -/
def inflR (b : Fin 2) (k : Fin 4) : sProp 𝕄 :=
  iprop(∃ f, slotP c A b fullShare.left.left.left.left f
    ∗ flightR c M A D G b 0 k fullShare.right f ∗ flightR c M A D G b 1 k fullShare.left.right f
    ∗ flightR c M A D G b 2 k fullShare.left.left.right f ∗ flightR c M A D G b 3 k fullShare.left.left.left.right f)

omit [FloatOps F] in
/-- The shares of a slot that its four copies brought back join with what was left of it. -/
theorem slot_join (b : Fin 2) (f : Buf (Elt F) ((slot A b).view.loc (c : Thread nD τ))) :
    (iprop(slotP c A b fullShare.left.left.left.left f ∗ slotP c A b fullShare.right f ∗ slotP c A b fullShare.left.right f
      ∗ slotP c A b fullShare.left.left.right f ∗ slotP c A b fullShare.left.left.left.right f) : sProp 𝕄) ⊢ slotP c A b fullShare f := by
  have e : ∀ q : PosShare TreeShare, (iprop(slotP c A b q.left f ∗ slotP c A b q.right f) : sProp 𝕄) ⊢ slotP c A b q f :=
    fun q => (pointsTo_share (PosShare.mem_left_op_right q)).2
  iintro ⟨H, H0, H1, H2, H3⟩
  ihave H := (e _) $$ [H H3]
  · isplitl [H]; · iexact H
    iexact H3
  ihave H := (e _) $$ [H H2]
  · isplitl [H]; · iexact H
    iexact H2
  ihave H := (e _) $$ [H H1]
  · isplitl [H]; · iexact H
    iexact H1
  ihave H := (e _) $$ [H H0]
  · isplitl [H]; · iexact H
    iexact H0
  iexact H

/-- A piece written whole with what `G` holds there is the piece at `G`. -/
theorem dst_restate (r k : Fin 4) (f : Buf (Elt F) ((dst M r k).view.loc (c : Thread nD τ))) (w : S2048x512.Idx → Elt F .f32)
    (hw : (dst M r k).view.read (Elt F) G = w) :
    (dstP c M r k ((dst M r k).view.writes (Elt F) f [⟨Rect.whole S2048x512, w⟩]) : sProp 𝕄) = dstP c M r k G := by
  dsimp only [dstP]
  rw [pointsTo_rep (Lvl := ℕ) (c : Thread nD τ) (dst M r k) ((dst M r k).view.writes (Elt F) f [⟨Rect.whole S2048x512, w⟩]),
    pointsTo_rep (Lvl := ℕ) (c : Thread nD τ) (dst M r k) G, View.read_writes_whole, hw]

/-- Four copies just started, each of the payload that `G` holds on its piece, are the step in flight. -/
theorem infl_intro (b : Fin 2) (k : Fin 4) (f : Buf (Elt F) ((slot A b).view.loc (c : Thread nD τ)))
    (f0 : Buf (Elt F) ((dst M 0 k).view.loc (c : Thread nD τ))) (f1 : Buf (Elt F) ((dst M 1 k).view.loc (c : Thread nD τ)))
    (f2 : Buf (Elt F) ((dst M 2 k).view.loc (c : Thread nD τ))) (f3 : Buf (Elt F) ((dst M 3 k).view.loc (c : Thread nD τ)))
    (w : S2048x512.Idx → Elt F .f32) (hw : ∀ r, (dst M r k).view.read (Elt F) G = w) :
    (iprop(slotP c A b fullShare.left.left.left.left f
      ∗ Transfers.Flight countersEmb (c : Thread nD τ) (SemLoc.dma (csm D b 0).sem) () 131072 iprop(dstP c M 0 k ((dst M 0 k).view.writes (Elt F) f0 [⟨Rect.whole S2048x512, w⟩]) ∗ slotP c A b fullShare.right f)
      ∗ Transfers.Flight countersEmb (c : Thread nD τ) (SemLoc.dma (csm D b 1).sem) () 131072 iprop(dstP c M 1 k ((dst M 1 k).view.writes (Elt F) f1 [⟨Rect.whole S2048x512, w⟩]) ∗ slotP c A b fullShare.left.right f)
      ∗ Transfers.Flight countersEmb (c : Thread nD τ) (SemLoc.dma (csm D b 2).sem) () 131072 iprop(dstP c M 2 k ((dst M 2 k).view.writes (Elt F) f2 [⟨Rect.whole S2048x512, w⟩]) ∗ slotP c A b fullShare.left.left.right f)
      ∗ Transfers.Flight countersEmb (c : Thread nD τ) (SemLoc.dma (csm D b 3).sem) () 131072 iprop(dstP c M 3 k ((dst M 3 k).view.writes (Elt F) f3 [⟨Rect.whole S2048x512, w⟩]) ∗ slotP c A b fullShare.left.left.left.right f)) : sProp 𝕄)
      ⊢ inflR c M A D G b k := by
  rw [dst_restate c M G 0 k f0 w (hw 0), dst_restate c M G 1 k f1 w (hw 1), dst_restate c M G 2 k f2 w (hw 2), dst_restate c M G 3 k f3 w (hw 3)]
  unfold inflR
  iintro H
  iexists f
  iexact H
end

/-- What a slot reads after an unmasked store of `p` at that slot: `p`, re-indexed. -/
theorem slot_read_store (A : Memref sig .tc .vmem S2x2048x512 .f32) (b : Fin 2) {off : Fin 3 → Nat} (inb : ∀ a, off a + S1x2048x512.size a ≤ S2x2048x512.size a)
    (h : off = slotOff b) (f : A.view.ty.Contents (Elt F)) (p : S1x2048x512.Idx → Elt F .f32) :
    (slot A b).view.read (Elt F) ((A.access (Rect.unit (s := S2x2048x512) off S1x2048x512.size inb)).write (Elt F) f p Finset.univ)
      = fun y => p (Shape.reshapeEquiv (by decide) y) := by
  subst h
  funext y
  exact congrFun (View.read_write_univ (v := A.access (Rect.unit (s := S2x2048x512) (slotOff b) S1x2048x512.size inb)) f p) _

end Cert.KernelIdeal.Own

end
-- ==== Proof.Ideal.Body1.lean ====
/-
  One run of the body of the second pipeline, whose rotations are by constants: in each of the three classes of steps.
-/
module

public import proofs.«01_k».proof.Proof.Ideal.Steps
public import Idealize.ShloMosaic.Lib.VecWindow

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

abbrev outM1 : Memref sig .tc .hbm S8192x2048 .f32 := Memref.whole main_case0b1_v5
abbrev accM1 : Memref sig .tc .vmem S2x2048x512 .f32 := Memref.whole cc1_scratch0

/-- What a step of the second pipeline stores in its slot, from the eight blocks it loaded. -/
def stepVal1 (w2 : S16x512.Idx → Elt F .f32) (w3 : S32x512.Idx → Elt F .f32) (w4 : S64x512.Idx → Elt F .f32) (w5 : S128x512.Idx → Elt F .f32) (w6 : S256x512.Idx → Elt F .f32) (w7 : S512x512.Idx → Elt F .f32) (w8 : S1024x512.Idx → Elt F .f32) (w9 : S2048x512.Idx → Elt F .f32) : S2048x512.Idx → Elt F .f32 :=
  fun y => k1_pay2 (k1_pay1 w2 w3 w4 w5 w6 w7 w8) w9 471#32 (Shape.reshapeEquiv (by decide) y)

section
variable (c : Dev nD) (i : grid1.Coords)
variable (arg1 : Memref sig .tc .smem S8 .i32) (harg1 : arg1.IsWhole) (arg2 : Memref sig .tc .vmem S16x512 .f32) (harg2 : arg2.IsWhole) (arg3 : Memref sig .tc .vmem S32x512 .f32) (harg3 : arg3.IsWhole) (arg4 : Memref sig .tc .vmem S64x512 .f32) (harg4 : arg4.IsWhole) (arg5 : Memref sig .tc .vmem S128x512 .f32) (harg5 : arg5.IsWhole) (arg6 : Memref sig .tc .vmem S256x512 .f32) (harg6 : arg6.IsWhole) (arg7 : Memref sig .tc .vmem S512x512 .f32) (harg7 : arg7.IsWhole) (arg8 : Memref sig .tc .vmem S1024x512 .f32) (harg8 : arg8.IsWhole) (arg9 : Memref sig .tc .vmem S2048x512 .f32) (harg9 : arg9.IsWhole)

abbrev body1 : Prog (TpuEff nD τ sig (Elt F) Λ₀ .tc) PUnit :=
  cc1__body i arg1 harg1 arg2 harg2 arg3 harg3 arg4 harg4 arg5 harg5 arg6 harg6 arg7 harg7 arg8 harg8 arg9 harg9 outM1 (Memref.isWhole_whole _) accM1 (Memref.isWhole_whole _) cc1_scratch1

/-- The eight staged blocks. -/
def wins (w2 : S16x512.Idx → Elt F .f32) (w3 : S32x512.Idx → Elt F .f32) (w4 : S64x512.Idx → Elt F .f32) (w5 : S128x512.Idx → Elt F .f32) (w6 : S256x512.Idx → Elt F .f32) (w7 : S512x512.Idx → Elt F .f32) (w8 : S1024x512.Idx → Elt F .f32) (w9 : S2048x512.Idx → Elt F .f32) : sProp 𝕄 :=
  iprop(inP c arg2 (arg2.view.rep w2) ∗ inP c arg3 (arg3.view.rep w3) ∗ inP c arg4 (arg4.view.rep w4) ∗ inP c arg5 (arg5.view.rep w5) ∗ inP c arg6 (arg6.view.rep w6) ∗ inP c arg7 (arg7.view.rep w7) ∗ inP c arg8 (arg8.view.rep w8) ∗ inP c arg9 (arg9.view.rep w9))

variable (G : Buf (Elt F) (outM1.view.loc (c : Thread nD τ)))

/-- What a slot holds after the store of a step is the payload of that step, whatever names its loads go by. -/
theorem stored1 (f : accM1.view.ty.Contents (Elt F)) (w2 w3 w4 w5 w6 w7 w8 w9) (l2 l3 l4 l5 l6 l7 l8 l9)
    (e2 : l2 = w2) (e3 : l3 = w3) (e4 : l4 = w4) (e5 : l5 = w5) (e6 : l6 = w6) (e7 : l7 = w7) (e8 : l8 = w8) (e9 : l9 = w9) {inb} :
    stepVal1 (F := F) w2 w3 w4 w5 w6 w7 w8 w9 = ReadAs.same.apply ((slot accM1 (Ring.sl 2 (i 0).val)).view.read (Elt F)
      ((accM1.access (Rect.unit (s := S2x2048x512) (k1_off10 i) S1x2048x512.size inb)).write (Elt F) f (k1_pay2 (k1_pay1 l2 l3 l4 l5 l6 l7 l8) l9 471#32) Finset.univ)) := by
  subst e2 e3 e4 e5 e6 e7 e8 e9
  exact (slot_read_store accM1 (Ring.sl 2 (i 0).val) inb SlotAt.eq f _).symm

set_option backward.isDefEq.respectTransparency.types false in
/-- A step with no copies to await: the four copies of its payload go out. -/
theorem run1A (h1 : ¬ k1_cond1 i = 1#1) (h2 : ¬ k1_cond2 i = 1#1) (w2 w3 w4 w5 w6 w7 w8 w9)
    (hG : ∀ r, (dst outM1 r (Ring.bk 4 (i 0).val)).view.read (Elt F) G = stepVal1 w2 w3 w4 w5 w6 w7 w8 w9) :
    iprop(wins c arg2 arg3 arg4 arg5 arg6 arg7 arg8 arg9 w2 w3 w4 w5 w6 w7 w8 w9 ∗ freeR c accM1 cc1_scratch1 (Ring.sl 2 (i 0).val) ∗ aheadR c outM1 (Ring.bk 4 (i 0).val))
      ⊢ wp frame (wpE (defs₀ (F := F)) 𝒱₀ (c : Thread nD τ) none) Set.univ (body1 (F := F) i arg1 harg1 arg2 harg2 arg3 harg3 arg4 harg4 arg5 harg5 arg6 harg6 arg7 harg7 arg8 harg8 arg9 harg9)
        (fun _ => iprop(wins c arg2 arg3 arg4 arg5 arg6 arg7 arg8 arg9 w2 w3 w4 w5 w6 w7 w8 w9 ∗ inflR c outM1 accM1 cc1_scratch1 G (Ring.sl 2 (i 0).val) (Ring.bk 4 (i 0).val))) := by
  unfold wins freeR aheadR
  iintro ⟨⟨H2, H3, H4, H5, H6, H7, H8, H9⟩, ⟨⟨%f, HA⟩, Hc0, Hc1, Hc2, Hc3⟩, ⟨%f0, Hd0⟩, ⟨%f1, Hd1⟩, ⟨%f2, Hd2⟩, ⟨%f3, Hd3⟩⟩
  dsimp only [body1]
  sl_unfold [cc1__body]
  set_option sl_exec.lendShare "HA" in sl_exec
  sl_step
  isplitl [H2 H3 H4 H5 H6 H7 H8 H9]
  · iframe
  have hw : ∀ r, (dst outM1 r (Ring.bk 4 (i 0).val)).view.read (Elt F) G = run1A.sl.dma10 c i arg2 arg3 arg4 arg5 arg6 arg7 arg8 arg9 w2 w3 w4 w5 w6 w7 w8 w9 f := fun r => by
    rw [hG]
    delta run1A.sl.dma10 run1A.sl.HA_w1 run1A.sl.r run1A.sl.r_1
    exact stored1 i f w2 w3 w4 w5 w6 w7 w8 w9 _ _ _ _ _ _ _ _ (View.readAt_rep_full _ _ _) (View.readAt_rep_full _ _ _) (View.readAt_rep_full _ _ _) (View.readAt_rep_full _ _ _) (View.readAt_rep_full _ _ _) (View.readAt_rep_full _ _ _) (View.readAt_rep_full _ _ _) (View.readAt_rep_full _ _ _)
  have L := infl_intro c outM1 accM1 cc1_scratch1 G (Ring.sl 2 (i 0).val) (Ring.bk 4 (i 0).val) (run1A.sl.HA_w1 c i arg2 arg3 arg4 arg5 arg6 arg7 arg8 arg9 w2 w3 w4 w5 w6 w7 w8 w9 f) f0 f1 f2 f3 _ hw
  iapply L
  isplitl [HA]; · iexact HA
  isplitl [Hc0]; · iexact Hc0
  isplitl [Hc1]; · iexact Hc1
  isplitl [Hc2]; · iexact Hc2
  iexact Hc3
set_option backward.isDefEq.respectTransparency.types false in
/-- A step that awaits the copies of two steps before. -/
theorem run1B (h1 : k1_cond1 i = 1#1) (h2 : ¬ k1_cond2 i = 1#1) (w2 w3 w4 w5 w6 w7 w8 w9)
    (hG : ∀ r, (dst outM1 r (Ring.bk 4 (i 0).val)).view.read (Elt F) G = stepVal1 w2 w3 w4 w5 w6 w7 w8 w9) :
    iprop(wins c arg2 arg3 arg4 arg5 arg6 arg7 arg8 arg9 w2 w3 w4 w5 w6 w7 w8 w9 ∗ (∃ W, owes (c : Thread nD τ) 0 W) ∗ inflR c outM1 accM1 cc1_scratch1 G (Ring.sl 2 (i 0).val) (Ring.bk 4 ((i 0).val - 2)) ∗ aheadR c outM1 (Ring.bk 4 (i 0).val))
      ⊢ wp frame (wpE (defs₀ (F := F)) 𝒱₀ (c : Thread nD τ) none) Set.univ (body1 (F := F) i arg1 harg1 arg2 harg2 arg3 harg3 arg4 harg4 arg5 harg5 arg6 harg6 arg7 harg7 arg8 harg8 arg9 harg9)
        (fun _ => iprop(wins c arg2 arg3 arg4 arg5 arg6 arg7 arg8 arg9 w2 w3 w4 w5 w6 w7 w8 w9 ∗ (∃ W, owes (c : Thread nD τ) 0 W) ∗ behindR c outM1 G (Ring.bk 4 ((i 0).val - 2)) ∗ inflR c outM1 accM1 cc1_scratch1 G (Ring.sl 2 (i 0).val) (Ring.bk 4 (i 0).val))) := by
  unfold wins aheadR behindR
  iintro ⟨⟨H2, H3, H4, H5, H6, H7, H8, H9⟩, ⟨%W, HW⟩, Hi, ⟨%f0, Hd0⟩, ⟨%f1, Hd1⟩, ⟨%f2, Hd2⟩, ⟨%f3, Hd3⟩⟩
  dsimp only [body1]
  sl_unfold [cc1__body]
  unfold inflR
  icases Hi with ⟨%f, HA, Hc0, Hc1, Hc2, Hc3⟩
  set_option sl_exec.stopBefore "k1_part3" in sl_exec
  ihave HA := (slot_join c accM1 (Ring.sl 2 (i 0).val) f) $$ [HA Hc0_src Hc1_src Hc2_src Hc3_src]
  · iframe
  set_option sl_exec.lendShare "HA" in sl_exec
  sl_step
  isplitl [H2 H3 H4 H5 H6 H7 H8 H9]
  · iframe
  isplitl [HW]; · iexists _; iexact HW
  isplitl [Hc0_dst Hc1_dst Hc2_dst Hc3_dst]
  · iframe
  have hw : ∀ r, (dst outM1 r (Ring.bk 4 (i 0).val)).view.read (Elt F) G = run1B.sl.dma2 c i arg2 arg3 arg4 arg5 arg6 arg7 arg8 arg9 w2 w3 w4 w5 w6 w7 w8 w9 f := fun r => by
    rw [hG]
    delta run1B.sl.dma2 run1B.sl.HA_w1 run1B.sl.r run1B.sl.r_1
    exact stored1 i f w2 w3 w4 w5 w6 w7 w8 w9 _ _ _ _ _ _ _ _ (View.readAt_rep_full _ _ _) (View.readAt_rep_full _ _ _) (View.readAt_rep_full _ _ _) (View.readAt_rep_full _ _ _) (View.readAt_rep_full _ _ _) (View.readAt_rep_full _ _ _) (View.readAt_rep_full _ _ _) (View.readAt_rep_full _ _ _)
  have L := infl_intro c outM1 accM1 cc1_scratch1 G (Ring.sl 2 (i 0).val) (Ring.bk 4 (i 0).val) (run1B.sl.HA_w1 c i arg2 arg3 arg4 arg5 arg6 arg7 arg8 arg9 w2 w3 w4 w5 w6 w7 w8 w9 f) f0 f1 f2 f3 _ hw
  unfold inflR at L
  iapply L
  isplitl [HA]; · iexact HA
  isplitl [Hc0]; · iexact Hc0
  isplitl [Hc1]; · iexact Hc1
  isplitl [Hc2]; · iexact Hc2
  iexact Hc3
set_option backward.isDefEq.respectTransparency.types false in
/-- The last step: it awaits the copies of two steps before, and at its end those of the step before and its own. -/
theorem run1C (h1 : k1_cond1 i = 1#1) (h2 : k1_cond2 i = 1#1) (w2 w3 w4 w5 w6 w7 w8 w9)
    (hG : ∀ r, (dst outM1 r (Ring.bk 4 (i 0).val)).view.read (Elt F) G = stepVal1 w2 w3 w4 w5 w6 w7 w8 w9) :
    iprop(wins c arg2 arg3 arg4 arg5 arg6 arg7 arg8 arg9 w2 w3 w4 w5 w6 w7 w8 w9 ∗ (∃ W, owes (c : Thread nD τ) 0 W) ∗ inflR c outM1 accM1 cc1_scratch1 G (Ring.sl 2 (i 0).val) (Ring.bk 4 ((i 0).val - 2)) ∗ inflR c outM1 accM1 cc1_scratch1 G (Ring.sl 2 ((i 0).val + 1)) (Ring.bk 4 ((i 0).val - 1)) ∗ aheadR c outM1 (Ring.bk 4 (i 0).val))
      ⊢ wp frame (wpE (defs₀ (F := F)) 𝒱₀ (c : Thread nD τ) none) Set.univ (body1 (F := F) i arg1 harg1 arg2 harg2 arg3 harg3 arg4 harg4 arg5 harg5 arg6 harg6 arg7 harg7 arg8 harg8 arg9 harg9)
        (fun _ => iprop(wins c arg2 arg3 arg4 arg5 arg6 arg7 arg8 arg9 w2 w3 w4 w5 w6 w7 w8 w9 ∗ (∃ W, owes (c : Thread nD τ) 0 W) ∗ behindR c outM1 G (Ring.bk 4 ((i 0).val - 2)) ∗ behindR c outM1 G (Ring.bk 4 ((i 0).val - 1)) ∗ behindR c outM1 G (Ring.bk 4 (i 0).val) ∗ freeR c accM1 cc1_scratch1 (Ring.sl 2 (i 0).val) ∗ freeR c accM1 cc1_scratch1 (Ring.sl 2 ((i 0).val + 1)))) := by
  unfold wins aheadR behindR freeR
  iintro ⟨⟨H2, H3, H4, H5, H6, H7, H8, H9⟩, ⟨%W, HW⟩, Hi, Hj, ⟨%f0, Hd0⟩, ⟨%f1, Hd1⟩, ⟨%f2, Hd2⟩, ⟨%f3, Hd3⟩⟩
  dsimp only [body1]
  sl_unfold [cc1__body]
  unfold inflR
  icases Hi with ⟨%f, HA, Hc0, Hc1, Hc2, Hc3⟩
  icases Hj with ⟨%g, HB, He0, He1, He2, He3⟩
  set_option sl_exec.stopBefore "k1_part3" in sl_exec
  ihave HA := (slot_join c accM1 (Ring.sl 2 (i 0).val) f) $$ [HA Hc0_src Hc1_src Hc2_src Hc3_src]
  · iframe
  set_option sl_exec.lendShare "HA" in sl_exec
  sl_step
  isplitl [H2 H3 H4 H5 H6 H7 H8 H9]
  · iframe
  isplitl [HW]; · iexists _; iexact HW
  have hw : ∀ r, (dst outM1 r (Ring.bk 4 (i 0).val)).view.read (Elt F) G = run1C.sl.dma2 c i arg2 arg3 arg4 arg5 arg6 arg7 arg8 arg9 w2 w3 w4 w5 w6 w7 w8 w9 f := fun r => by
    rw [hG]
    delta run1C.sl.dma2 run1C.sl.HA_w1 run1C.sl.r run1C.sl.r_1
    exact stored1 i f w2 w3 w4 w5 w6 w7 w8 w9 _ _ _ _ _ _ _ _ (View.readAt_rep_full _ _ _) (View.readAt_rep_full _ _ _) (View.readAt_rep_full _ _ _) (View.readAt_rep_full _ _ _) (View.readAt_rep_full _ _ _) (View.readAt_rep_full _ _ _) (View.readAt_rep_full _ _ _) (View.readAt_rep_full _ _ _)
  ihave Hd0 := (BIBase.Entails.of_eq (dst_restate c outM1 G 0 (Ring.bk 4 (i 0).val) f0 _ (hw 0))) $$ Hd0
  ihave Hd1 := (BIBase.Entails.of_eq (dst_restate c outM1 G 1 (Ring.bk 4 (i 0).val) f1 _ (hw 1))) $$ Hd1
  ihave Hd2 := (BIBase.Entails.of_eq (dst_restate c outM1 G 2 (Ring.bk 4 (i 0).val) f2 _ (hw 2))) $$ Hd2
  ihave Hd3 := (BIBase.Entails.of_eq (dst_restate c outM1 G 3 (Ring.bk 4 (i 0).val) f3 _ (hw 3))) $$ Hd3
  ihave HA := (slot_join c accM1 (Ring.sl 2 (i 0).val) (run1C.sl.HA_w1 c i arg2 arg3 arg4 arg5 arg6 arg7 arg8 arg9 w2 w3 w4 w5 w6 w7 w8 w9 f)) $$ [HA HA_lend HA_lend_2 HA_lend_3 HA_lend_4]
  · isplitl [HA]; · iexact HA
    isplitl [HA_lend]; · iexact HA_lend
    isplitl [HA_lend_2]; · iexact HA_lend_2
    isplitl [HA_lend_3]; · iexact HA_lend_3
    iexact HA_lend_4
  ihave HB := (slot_join c accM1 (Ring.sl 2 ((i 0).val + 1)) g) $$ [HB He0_src He1_src He2_src He3_src]
  · iframe
  isplitl [Hc0_dst Hc1_dst Hc2_dst Hc3_dst]
  · iframe
  isplitl [He0_dst He1_dst He2_dst He3_dst]
  · iframe
  isplitl [Hd0 Hd1 Hd2 Hd3]
  · iframe
  isplitl [HA Hc0 Hc1 Hc2 Hc3]
  · isplitl [HA]; · iexists _; iexact HA
    iframe
  isplitl [HB]; · iexists _; iexact HB
  iframe

end
end Cert.KernelIdeal.Own

end
-- ==== Proof.Ideal.Body0.lean ====
/-
  One run of the body of the first pipeline, whose rotations are by words of the table: in each of the three classes of steps.
-/
module

public import proofs.«01_k».proof.Proof.Ideal.Body1
public import Idealize.ShloMosaic.Lib.VecWindow

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

abbrev outM0 : Memref sig .tc .hbm S8192x2048 .f32 := Memref.whole main_case0b0_v5
abbrev accM0 : Memref sig .tc .vmem S2x2048x512 .f32 := Memref.whole cc0_scratch0

/-- The index of word `k` of the table. -/
def ix8 (k : Fin 8) : S8.Idx := fun a => ⟨k.val, by have := k.2; fin_cases a; exact this⟩

/-- What a step of the first pipeline stores in its slot, from the eight blocks it loaded. -/
def stepVal0 (o : S8.Idx → Elt F .i32) (w2 : S16x512.Idx → Elt F .f32) (w3 : S32x512.Idx → Elt F .f32) (w4 : S64x512.Idx → Elt F .f32) (w5 : S128x512.Idx → Elt F .f32) (w6 : S256x512.Idx → Elt F .f32) (w7 : S512x512.Idx → Elt F .f32) (w8 : S1024x512.Idx → Elt F .f32) (w9 : S2048x512.Idx → Elt F .f32) : S2048x512.Idx → Elt F .f32 :=
  fun y =>
    let d : BitVec 32 := Scalar.remsi (Scalar.subi 1024#32 (o (ix8 6))) 1024#32
    k0_pay4 (k0_pay3 (k0_pay2 (k0_pay1 w2 (o (ix8 0)) w3 (o (ix8 1))) w4 (o (ix8 2)) w5 (o (ix8 3))) w6 (Scalar.subi 256#32 (o (ix8 4))) 256#32 0#32 w7 (o (ix8 5)))
      w8 1024#32 d (Scalar.cmpi .ne d 0#32) (Scalar.cmpi .slt d 0#32) w9 (o (ix8 7)) (Shape.reshapeEquiv (by decide) y)

/-- A word of the table, read through the table's buffer. -/
theorem rd_word (arg1 : Memref sig .tc .smem S8 .i32) (o : S8.Idx → Elt F .i32) (k : Fin 8) {inb : ∀ a, (![k.val] : Fin 1 → Nat) a + S1.size a ≤ S8.size a} {h} :
    arg1.view.readAt (Elt F) (Rect.unit (s := S8) ![k.val] S1.size inb).toLoadRect (arg1.view.rep o) (Shape.Idx.first h) = o (ix8 k) := by
  rw [View.readAt_rep]
  refine congrArg o (funext fun a => Fin.ext ?_)
  fin_cases a
  have h0 : (Shape.Idx.first h (0 : Fin 1)).val = 0 := by
    have := (Shape.Idx.first h (0 : Fin 1)).2; exact Nat.lt_one_iff.mp this
  simp [ix8, Rect.emb, h0]

section
variable (c : Dev nD) (i : grid0.Coords)
variable (arg1 : Memref sig .tc .smem S8 .i32) (harg1 : arg1.IsWhole) (arg2 : Memref sig .tc .vmem S16x512 .f32) (harg2 : arg2.IsWhole) (arg3 : Memref sig .tc .vmem S32x512 .f32) (harg3 : arg3.IsWhole) (arg4 : Memref sig .tc .vmem S64x512 .f32) (harg4 : arg4.IsWhole) (arg5 : Memref sig .tc .vmem S128x512 .f32) (harg5 : arg5.IsWhole) (arg6 : Memref sig .tc .vmem S256x512 .f32) (harg6 : arg6.IsWhole) (arg7 : Memref sig .tc .vmem S512x512 .f32) (harg7 : arg7.IsWhole) (arg8 : Memref sig .tc .vmem S1024x512 .f32) (harg8 : arg8.IsWhole) (arg9 : Memref sig .tc .vmem S2048x512 .f32) (harg9 : arg9.IsWhole)

abbrev body0 : Prog (TpuEff nD τ sig (Elt F) Λ₀ .tc) PUnit :=
  cc0__body i arg1 harg1 arg2 harg2 arg3 harg3 arg4 harg4 arg5 harg5 arg6 harg6 arg7 harg7 arg8 harg8 arg9 harg9 outM0 (Memref.isWhole_whole _) accM0 (Memref.isWhole_whole _) cc0_scratch1

variable (G : Buf (Elt F) (outM0.view.loc (c : Thread nD τ)))

/-- What a slot holds after the store of a step is the payload of that step, whatever names its loads go by. -/
theorem stored0 (f : accM0.view.ty.Contents (Elt F)) (o w2 w3 w4 w5 w6 w7 w8 w9) (l2 l3 l4 l5 l6 l7 l8 l9) (o0 o1 o2 o3 o4 o5 o6 o7)
    (e2 : l2 = w2) (e3 : l3 = w3) (e4 : l4 = w4) (e5 : l5 = w5) (e6 : l6 = w6) (e7 : l7 = w7) (e8 : l8 = w8) (e9 : l9 = w9)
    (p0 : o0 = o (ix8 0)) (p1 : o1 = o (ix8 1)) (p2 : o2 = o (ix8 2)) (p3 : o3 = o (ix8 3)) (p4 : o4 = o (ix8 4)) (p5 : o5 = o (ix8 5)) (p6 : o6 = o (ix8 6)) (p7 : o7 = o (ix8 7)) {inb} :
    stepVal0 (F := F) o w2 w3 w4 w5 w6 w7 w8 w9 = ReadAs.same.apply ((slot accM0 (Ring.sl 2 (i 0).val)).view.read (Elt F)
      ((accM0.access (Rect.unit (s := S2x2048x512) (k0_off10 i) S1x2048x512.size inb)).write (Elt F) f
        (k0_pay4 (k0_pay3 (k0_pay2 (k0_pay1 l2 o0 l3 o1) l4 o2 l5 o3) l6 (Scalar.subi 256#32 o4) 256#32 0#32 l7 o5)
          l8 1024#32 (Scalar.remsi (Scalar.subi 1024#32 o6) 1024#32) (Scalar.cmpi .ne (Scalar.remsi (Scalar.subi 1024#32 o6) 1024#32) 0#32) (Scalar.cmpi .slt (Scalar.remsi (Scalar.subi 1024#32 o6) 1024#32) 0#32) l9 o7) Finset.univ)) := by
  subst e2 e3 e4 e5 e6 e7 e8 e9 p0 p1 p2 p3 p4 p5 p6 p7
  exact Eq.symm ((slot_read_store accM0 (Ring.sl 2 (i 0).val) inb SlotAt.eq f _).trans rfl)

set_option backward.isDefEq.respectTransparency.types false in
/-- A step with no copies to await: the four copies of its payload go out. -/
theorem run0A (h1 : ¬ k0_cond1 i = 1#1) (h2 : ¬ k0_cond2 i = 1#1) (o w2 w3 w4 w5 w6 w7 w8 w9)
    (hG : ∀ r, (dst outM0 r (Ring.bk 4 (i 0).val)).view.read (Elt F) G = stepVal0 o w2 w3 w4 w5 w6 w7 w8 w9) :
    iprop(inP c arg1 (arg1.view.rep o) ∗ wins c arg2 arg3 arg4 arg5 arg6 arg7 arg8 arg9 w2 w3 w4 w5 w6 w7 w8 w9 ∗ freeR c accM0 cc0_scratch1 (Ring.sl 2 (i 0).val) ∗ aheadR c outM0 (Ring.bk 4 (i 0).val))
      ⊢ wp frame (wpE (defs₀ (F := F)) 𝒱₀ (c : Thread nD τ) none) Set.univ (body0 (F := F) i arg1 harg1 arg2 harg2 arg3 harg3 arg4 harg4 arg5 harg5 arg6 harg6 arg7 harg7 arg8 harg8 arg9 harg9)
        (fun _ => iprop(inP c arg1 (arg1.view.rep o) ∗ wins c arg2 arg3 arg4 arg5 arg6 arg7 arg8 arg9 w2 w3 w4 w5 w6 w7 w8 w9 ∗ inflR c outM0 accM0 cc0_scratch1 G (Ring.sl 2 (i 0).val) (Ring.bk 4 (i 0).val))) := by
  unfold wins freeR aheadR
  iintro ⟨H1, ⟨H2, H3, H4, H5, H6, H7, H8, H9⟩, ⟨⟨%f, HA⟩, Hc0, Hc1, Hc2, Hc3⟩, ⟨%f0, Hd0⟩, ⟨%f1, Hd1⟩, ⟨%f2, Hd2⟩, ⟨%f3, Hd3⟩⟩
  dsimp only [body0]
  sl_unfold [cc0__body]
  set_option sl_exec.lendShare "HA" in sl_exec
  sl_step
  isplitl [H1]
  · iexact H1
  isplitl [H2 H3 H4 H5 H6 H7 H8 H9]
  · iframe
  have hw : ∀ r, (dst outM0 r (Ring.bk 4 (i 0).val)).view.read (Elt F) G = run0A.sl.dma18 c i arg1 arg2 arg3 arg4 arg5 arg6 arg7 arg8 arg9 o w2 w3 w4 w5 w6 w7 w8 w9 f := fun r => by
    rw [hG]
    delta run0A.sl.dma18 run0A.sl.HA_w1 run0A.sl.v104 run0A.sl.v105 run0A.sl.r_10
    delta run0A.sl.v103 run0A.sl.v100 run0A.sl.v68 run0A.sl.r run0A.sl.r_1 run0A.sl.r_2 run0A.sl.r_3 run0A.sl.r_4 run0A.sl.r_5 run0A.sl.r_6 run0A.sl.r_7 run0A.sl.r_8 run0A.sl.r_9 run0A.sl.r_10 run0A.sl.r_11 run0A.sl.r_12
    exact stored0 i f o w2 w3 w4 w5 w6 w7 w8 w9 _ _ _ _ _ _ _ _ _ _ _ _ _ _ _ _ (View.readAt_rep_full _ _ _) (View.readAt_rep_full _ _ _) (View.readAt_rep_full _ _ _) (View.readAt_rep_full _ _ _) (View.readAt_rep_full _ _ _) (View.readAt_rep_full _ _ _) (View.readAt_rep_full _ _ _) (View.readAt_rep_full _ _ _)
      (rd_word arg1 o 0) (rd_word arg1 o 1) (rd_word arg1 o 2) (rd_word arg1 o 3) (rd_word arg1 o 4) (rd_word arg1 o 5) (rd_word arg1 o 6) (rd_word arg1 o 7)
  have L := infl_intro c outM0 accM0 cc0_scratch1 G (Ring.sl 2 (i 0).val) (Ring.bk 4 (i 0).val) (run0A.sl.HA_w1 c i arg1 arg2 arg3 arg4 arg5 arg6 arg7 arg8 arg9 o w2 w3 w4 w5 w6 w7 w8 w9 f) f0 f1 f2 f3 _ hw
  iapply L
  isplitl [HA]; · iexact HA
  isplitl [Hc0]; · iexact Hc0
  isplitl [Hc1]; · iexact Hc1
  isplitl [Hc2]; · iexact Hc2
  iexact Hc3
set_option backward.isDefEq.respectTransparency.types false in
/-- A step that awaits the copies of two steps before. -/
theorem run0B (h1 : k0_cond1 i = 1#1) (h2 : ¬ k0_cond2 i = 1#1) (o w2 w3 w4 w5 w6 w7 w8 w9)
    (hG : ∀ r, (dst outM0 r (Ring.bk 4 (i 0).val)).view.read (Elt F) G = stepVal0 o w2 w3 w4 w5 w6 w7 w8 w9) :
    iprop(inP c arg1 (arg1.view.rep o) ∗ wins c arg2 arg3 arg4 arg5 arg6 arg7 arg8 arg9 w2 w3 w4 w5 w6 w7 w8 w9 ∗ (∃ W, owes (c : Thread nD τ) 0 W) ∗ inflR c outM0 accM0 cc0_scratch1 G (Ring.sl 2 (i 0).val) (Ring.bk 4 ((i 0).val - 2)) ∗ aheadR c outM0 (Ring.bk 4 (i 0).val))
      ⊢ wp frame (wpE (defs₀ (F := F)) 𝒱₀ (c : Thread nD τ) none) Set.univ (body0 (F := F) i arg1 harg1 arg2 harg2 arg3 harg3 arg4 harg4 arg5 harg5 arg6 harg6 arg7 harg7 arg8 harg8 arg9 harg9)
        (fun _ => iprop(inP c arg1 (arg1.view.rep o) ∗ wins c arg2 arg3 arg4 arg5 arg6 arg7 arg8 arg9 w2 w3 w4 w5 w6 w7 w8 w9 ∗ (∃ W, owes (c : Thread nD τ) 0 W) ∗ behindR c outM0 G (Ring.bk 4 ((i 0).val - 2)) ∗ inflR c outM0 accM0 cc0_scratch1 G (Ring.sl 2 (i 0).val) (Ring.bk 4 (i 0).val))) := by
  unfold wins aheadR behindR
  iintro ⟨H1, ⟨H2, H3, H4, H5, H6, H7, H8, H9⟩, ⟨%W, HW⟩, Hi, ⟨%f0, Hd0⟩, ⟨%f1, Hd1⟩, ⟨%f2, Hd2⟩, ⟨%f3, Hd3⟩⟩
  dsimp only [body0]
  sl_unfold [cc0__body]
  unfold inflR
  icases Hi with ⟨%f, HA, Hc0, Hc1, Hc2, Hc3⟩
  set_option sl_exec.stopBefore "k0_part3" in sl_exec
  ihave HA := (slot_join c accM0 (Ring.sl 2 (i 0).val) f) $$ [HA Hc0_src Hc1_src Hc2_src Hc3_src]
  · iframe
  set_option sl_exec.lendShare "HA" in sl_exec
  sl_step
  isplitl [H1]
  · iexact H1
  isplitl [H2 H3 H4 H5 H6 H7 H8 H9]
  · iframe
  isplitl [HW]; · iexists _; iexact HW
  isplitl [Hc0_dst Hc1_dst Hc2_dst Hc3_dst]
  · iframe
  have hw : ∀ r, (dst outM0 r (Ring.bk 4 (i 0).val)).view.read (Elt F) G = run0B.sl.dma14 c i arg1 arg2 arg3 arg4 arg5 arg6 arg7 arg8 arg9 o w2 w3 w4 w5 w6 w7 w8 w9 f := fun r => by
    rw [hG]
    delta run0B.sl.dma14 run0B.sl.HA_w1 run0B.sl.v104 run0B.sl.v105 run0B.sl.r_10
    delta run0B.sl.v103 run0B.sl.v100 run0B.sl.v68 run0B.sl.r run0B.sl.r_1 run0B.sl.r_2 run0B.sl.r_3 run0B.sl.r_4 run0B.sl.r_5 run0B.sl.r_6 run0B.sl.r_7 run0B.sl.r_8 run0B.sl.r_9 run0B.sl.r_10 run0B.sl.r_11 run0B.sl.r_12
    exact stored0 i f o w2 w3 w4 w5 w6 w7 w8 w9 _ _ _ _ _ _ _ _ _ _ _ _ _ _ _ _ (View.readAt_rep_full _ _ _) (View.readAt_rep_full _ _ _) (View.readAt_rep_full _ _ _) (View.readAt_rep_full _ _ _) (View.readAt_rep_full _ _ _) (View.readAt_rep_full _ _ _) (View.readAt_rep_full _ _ _) (View.readAt_rep_full _ _ _)
      (rd_word arg1 o 0) (rd_word arg1 o 1) (rd_word arg1 o 2) (rd_word arg1 o 3) (rd_word arg1 o 4) (rd_word arg1 o 5) (rd_word arg1 o 6) (rd_word arg1 o 7)
  have L := infl_intro c outM0 accM0 cc0_scratch1 G (Ring.sl 2 (i 0).val) (Ring.bk 4 (i 0).val) (run0B.sl.HA_w1 c i arg1 arg2 arg3 arg4 arg5 arg6 arg7 arg8 arg9 o w2 w3 w4 w5 w6 w7 w8 w9 f) f0 f1 f2 f3 _ hw
  unfold inflR at L
  iapply L
  isplitl [HA]; · iexact HA
  isplitl [Hc0]; · iexact Hc0
  isplitl [Hc1]; · iexact Hc1
  isplitl [Hc2]; · iexact Hc2
  iexact Hc3
set_option backward.isDefEq.respectTransparency.types false in
/-- The last step: it awaits the copies of two steps before, and at its end those of the step before and its own. -/
theorem run0C (h1 : k0_cond1 i = 1#1) (h2 : k0_cond2 i = 1#1) (o w2 w3 w4 w5 w6 w7 w8 w9)
    (hG : ∀ r, (dst outM0 r (Ring.bk 4 (i 0).val)).view.read (Elt F) G = stepVal0 o w2 w3 w4 w5 w6 w7 w8 w9) :
    iprop(inP c arg1 (arg1.view.rep o) ∗ wins c arg2 arg3 arg4 arg5 arg6 arg7 arg8 arg9 w2 w3 w4 w5 w6 w7 w8 w9 ∗ (∃ W, owes (c : Thread nD τ) 0 W) ∗ inflR c outM0 accM0 cc0_scratch1 G (Ring.sl 2 (i 0).val) (Ring.bk 4 ((i 0).val - 2)) ∗ inflR c outM0 accM0 cc0_scratch1 G (Ring.sl 2 ((i 0).val + 1)) (Ring.bk 4 ((i 0).val - 1)) ∗ aheadR c outM0 (Ring.bk 4 (i 0).val))
      ⊢ wp frame (wpE (defs₀ (F := F)) 𝒱₀ (c : Thread nD τ) none) Set.univ (body0 (F := F) i arg1 harg1 arg2 harg2 arg3 harg3 arg4 harg4 arg5 harg5 arg6 harg6 arg7 harg7 arg8 harg8 arg9 harg9)
        (fun _ => iprop(inP c arg1 (arg1.view.rep o) ∗ wins c arg2 arg3 arg4 arg5 arg6 arg7 arg8 arg9 w2 w3 w4 w5 w6 w7 w8 w9 ∗ (∃ W, owes (c : Thread nD τ) 0 W) ∗ behindR c outM0 G (Ring.bk 4 ((i 0).val - 2)) ∗ behindR c outM0 G (Ring.bk 4 ((i 0).val - 1)) ∗ behindR c outM0 G (Ring.bk 4 (i 0).val) ∗ freeR c accM0 cc0_scratch1 (Ring.sl 2 (i 0).val) ∗ freeR c accM0 cc0_scratch1 (Ring.sl 2 ((i 0).val + 1)))) := by
  unfold wins aheadR behindR freeR
  iintro ⟨H1, ⟨H2, H3, H4, H5, H6, H7, H8, H9⟩, ⟨%W, HW⟩, Hi, Hj, ⟨%f0, Hd0⟩, ⟨%f1, Hd1⟩, ⟨%f2, Hd2⟩, ⟨%f3, Hd3⟩⟩
  dsimp only [body0]
  sl_unfold [cc0__body]
  unfold inflR
  icases Hi with ⟨%f, HA, Hc0, Hc1, Hc2, Hc3⟩
  icases Hj with ⟨%g, HB, He0, He1, He2, He3⟩
  set_option sl_exec.stopBefore "k0_part3" in sl_exec
  ihave HA := (slot_join c accM0 (Ring.sl 2 (i 0).val) f) $$ [HA Hc0_src Hc1_src Hc2_src Hc3_src]
  · iframe
  set_option sl_exec.lendShare "HA" in sl_exec
  sl_step
  isplitl [H1]
  · iexact H1
  isplitl [H2 H3 H4 H5 H6 H7 H8 H9]
  · iframe
  isplitl [HW]; · iexists _; iexact HW
  have hw : ∀ r, (dst outM0 r (Ring.bk 4 (i 0).val)).view.read (Elt F) G = run0C.sl.dma14 c i arg1 arg2 arg3 arg4 arg5 arg6 arg7 arg8 arg9 o w2 w3 w4 w5 w6 w7 w8 w9 f := fun r => by
    rw [hG]
    delta run0C.sl.dma14 run0C.sl.HA_w1 run0C.sl.v104 run0C.sl.v105 run0C.sl.r_10
    delta run0C.sl.v103 run0C.sl.v100 run0C.sl.v68 run0C.sl.r run0C.sl.r_1 run0C.sl.r_2 run0C.sl.r_3 run0C.sl.r_4 run0C.sl.r_5 run0C.sl.r_6 run0C.sl.r_7 run0C.sl.r_8 run0C.sl.r_9 run0C.sl.r_10 run0C.sl.r_11 run0C.sl.r_12
    exact stored0 i f o w2 w3 w4 w5 w6 w7 w8 w9 _ _ _ _ _ _ _ _ _ _ _ _ _ _ _ _ (View.readAt_rep_full _ _ _) (View.readAt_rep_full _ _ _) (View.readAt_rep_full _ _ _) (View.readAt_rep_full _ _ _) (View.readAt_rep_full _ _ _) (View.readAt_rep_full _ _ _) (View.readAt_rep_full _ _ _) (View.readAt_rep_full _ _ _)
      (rd_word arg1 o 0) (rd_word arg1 o 1) (rd_word arg1 o 2) (rd_word arg1 o 3) (rd_word arg1 o 4) (rd_word arg1 o 5) (rd_word arg1 o 6) (rd_word arg1 o 7)
  ihave Hd0 := (BIBase.Entails.of_eq (dst_restate c outM0 G 0 (Ring.bk 4 (i 0).val) f0 _ (hw 0))) $$ Hd0
  ihave Hd1 := (BIBase.Entails.of_eq (dst_restate c outM0 G 1 (Ring.bk 4 (i 0).val) f1 _ (hw 1))) $$ Hd1
  ihave Hd2 := (BIBase.Entails.of_eq (dst_restate c outM0 G 2 (Ring.bk 4 (i 0).val) f2 _ (hw 2))) $$ Hd2
  ihave Hd3 := (BIBase.Entails.of_eq (dst_restate c outM0 G 3 (Ring.bk 4 (i 0).val) f3 _ (hw 3))) $$ Hd3
  ihave HA := (slot_join c accM0 (Ring.sl 2 (i 0).val) (run0C.sl.HA_w1 c i arg1 arg2 arg3 arg4 arg5 arg6 arg7 arg8 arg9 o w2 w3 w4 w5 w6 w7 w8 w9 f)) $$ [HA HA_lend HA_lend_2 HA_lend_3 HA_lend_4]
  · isplitl [HA]; · iexact HA
    isplitl [HA_lend]; · iexact HA_lend
    isplitl [HA_lend_2]; · iexact HA_lend_2
    isplitl [HA_lend_3]; · iexact HA_lend_3
    iexact HA_lend_4
  ihave HB := (slot_join c accM0 (Ring.sl 2 ((i 0).val + 1)) g) $$ [HB He0_src He1_src He2_src He3_src]
  · iframe
  isplitl [Hc0_dst Hc1_dst Hc2_dst Hc3_dst]
  · iframe
  isplitl [He0_dst He1_dst He2_dst He3_dst]
  · iframe
  isplitl [Hd0 Hd1 Hd2 Hd3]
  · iframe
  isplitl [HA Hc0 Hc1 Hc2 Hc3]
  · isplitl [HA]; · iexists _; iexact HA
    iframe
  isplitl [HB]; · iexists _; iexact HB
  iframe

end
end Cert.KernelIdeal.Own

end
-- ==== Proof.Ideal.Pieces.lean ====
/-
  The result is its sixteen pieces and the accumulator its two slots, and back.
-/
module

public import proofs.«01_k».proof.Proof.Ideal.Steps

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The elements of the piece of group `r` and column block `k`. -/
abbrev pieceI (p : Fin 4 × Fin 4) : Finset S8192x2048.Idx := (Rect.unit (s := S8192x2048) (dstOff p.2 p.1) S2048x512.size (dstOff_inb p.2 p.1)).set
/-- The elements of slot `b`. -/
abbrev slotI (b : Fin 2) : Finset S2x2048x512.Idx := (Rect.unit (s := S2x2048x512) (slotOff b) S1x2048x512.size (slotOff_inb b)).set

theorem mem_pieceI (p : Fin 4 × Fin 4) (y : S8192x2048.Idx) : y ∈ pieceI p ↔ (y 0).val / 2048 = p.2.val ∧ (y 1).val / 512 = p.1.val := by
  rw [Rect.mem_set_unit]
  constructor
  · intro h
    have h0 := h 0
    have h1 := h 1
    simp only [dstOff, Matrix.cons_val_zero, Matrix.cons_val_one, Matrix.cons_val_fin_one, S2048x512] at h0 h1
    constructor <;> omega
  · rintro ⟨h0, h1⟩ a
    fin_cases a <;> simp only [dstOff, Matrix.cons_val_zero, Matrix.cons_val_one, Matrix.cons_val_fin_one, S2048x512, Fin.mk_one, Fin.zero_eta] <;> omega

theorem mem_slotI (b : Fin 2) (y : S2x2048x512.Idx) : y ∈ slotI b ↔ (y 0).val = b.val := by
  rw [Rect.mem_set_unit]
  have h1 : (y 1).val < 2048 := (y 1).isLt
  have h2 : (y 2).val < 512 := (y 2).isLt
  constructor
  · intro h
    have h0 := h 0
    simp only [slotOff, Matrix.cons_val_zero, S1x2048x512] at h0
    omega
  · rintro h0 a
    fin_cases a <;> simp [slotOff, S1x2048x512] <;> omega

theorem pieceI_disjoint (p q : Fin 4 × Fin 4) (h : p ≠ q) : Disjoint (pieceI p) (pieceI q) :=
  Finset.disjoint_left.2 fun y hp hq => h (by
    rw [mem_pieceI] at hp hq
    exact Prod.ext (Fin.ext (by omega)) (Fin.ext (by omega)))
theorem pieceI_cover : Finset.univ.biUnion pieceI = Finset.univ := by
  ext y
  simp only [Finset.mem_biUnion, Finset.mem_univ, true_and, iff_true]
  have h0 : (y 0).val < 8192 := (y 0).isLt
  have h1 : (y 1).val < 2048 := (y 1).isLt
  exact ⟨(⟨(y 1).val / 512, by omega⟩, ⟨(y 0).val / 2048, by omega⟩), (mem_pieceI _ _).2 ⟨rfl, rfl⟩⟩
theorem slotI_disjoint (b d : Fin 2) (h : b ≠ d) : Disjoint (slotI b) (slotI d) :=
  Finset.disjoint_left.2 fun y hp hq => h (by
    rw [mem_slotI] at hp hq
    exact Fin.ext (by omega))
theorem slotI_cover : Finset.univ.biUnion slotI = Finset.univ := by
  ext y
  simp only [Finset.mem_biUnion, Finset.mem_univ, true_and, iff_true]
  have h0 : (y 0).val < 2 := (y 0).isLt
  exact ⟨⟨(y 0).val, h0⟩, (mem_slotI _ _).2 rfl⟩

section
variable (c : Dev nD)
  (M : Memref sig .tc .hbm S8192x2048 .f32) (A : Memref sig .tc .vmem S2x2048x512 .f32)

/-- The elements of a piece, as elements of the buffer. -/
def pieceS (p : Fin 4 × Fin 4) : Finset M.view.ty.Idx := (pieceI p).map M.view.emb
/-- The elements of a slot, as elements of the buffer. -/
def slotS (b : Fin 2) : Finset A.view.ty.Idx := (slotI b).map A.view.emb

theorem pieceS_cover : Finset.univ.biUnion (pieceS M) = M.view.set := by
  ext y
  simp only [pieceS, Finset.mem_biUnion, Finset.mem_univ, true_and, Finset.mem_map, View.set]
  constructor
  · rintro ⟨p, x, -, h⟩; exact ⟨x, h⟩
  · rintro ⟨x, h⟩
    have hx : x ∈ Finset.univ.biUnion pieceI := by rw [pieceI_cover]; exact Finset.mem_univ _
    obtain ⟨p, -, hp⟩ := Finset.mem_biUnion.1 hx
    exact ⟨p, x, hp, h⟩
theorem pieceS_disjoint (p q : Fin 4 × Fin 4) (h : p ≠ q) : Disjoint (pieceS M p) (pieceS M q) :=
  (Finset.disjoint_map _).2 (pieceI_disjoint p q h)
theorem slotS_cover : Finset.univ.biUnion (slotS A) = A.view.set := by
  ext y
  simp only [slotS, Finset.mem_biUnion, Finset.mem_univ, true_and, Finset.mem_map, View.set]
  constructor
  · rintro ⟨p, x, -, h⟩; exact ⟨x, h⟩
  · rintro ⟨x, h⟩
    have hx : x ∈ Finset.univ.biUnion slotI := by rw [slotI_cover]; exact Finset.mem_univ _
    obtain ⟨p, -, hp⟩ := Finset.mem_biUnion.1 hx
    exact ⟨p, x, hp, h⟩
theorem slotS_disjoint (b d : Fin 2) (h : b ≠ d) : Disjoint (slotS A b) (slotS A d) :=
  (Finset.disjoint_map _).2 (slotI_disjoint b d h)

omit [FloatOps F] in
theorem dstP_eq (r k : Fin 4) (f : Buf (Elt F) (M.view.loc (c : Thread nD τ))) : dstP c M r k f = (M.view.loc (c : Thread nD τ) ↦[pieceS M (k, r)]{fullShare} f : sProp 𝕄) :=
  congrArg (fun S => (M.view.loc (c : Thread nD τ) ↦[S]{fullShare} f : sProp 𝕄)) (View.set_slice _ _)
omit [FloatOps F] in
theorem slotP_eq (b : Fin 2) (f : Buf (Elt F) (A.view.loc (c : Thread nD τ))) : slotP c A b fullShare f = (A.view.loc (c : Thread nD τ) ↦[slotS A b]{fullShare} f : sProp 𝕄) :=
  congrArg (fun S => (A.view.loc (c : Thread nD τ) ↦[S]{fullShare} f : sProp 𝕄)) ((View.set_reshape _ _).trans (View.set_slice _ _))

omit [FloatOps F] in
/-- The whole result at `f` is its sixteen pieces at `f`. -/
theorem pieces_eq (f : Buf (Elt F) (M.view.loc (c : Thread nD τ))) :
    (inP c M f : sProp 𝕄) = bigSep Finset.univ fun k : Fin 4 => bigSep Finset.univ fun r : Fin 4 => dstP c M r k f := by
  have e := pointsTo_biUnion (Ix := Unit) (Name := ℕ) (U := UU nD τ) (Lvl := ℕ) (q := fullShare) (f := f) Finset.univ (pieceS M) (fun p _ q _ h => pieceS_disjoint M p q h)
  rw [pieceS_cover] at e
  refine (e.trans (BI.bigSep_univ_prod _)).trans ?_
  exact BI.bigSep_congr fun k _ => BI.bigSep_congr fun r _ => (dstP_eq c M r k f).symm

omit [FloatOps F] in
theorem bigSep_fin4 {N : Type} [URA N] (P : Fin 4 → sProp N) : bigSep Finset.univ P = iprop(P 0 ∗ P 1 ∗ P 2 ∗ P 3) :=
  bigSep_univ_eq_bigSepL [(0 : Fin 4), (1 : Fin 4), (2 : Fin 4), (3 : Fin 4)] (by decide) (by decide) P
omit [FloatOps F] in
theorem bigSep_two {N : Type} [URA N] (P : Fin 2 → sProp N) : bigSep Finset.univ P = iprop(P 0 ∗ P 1) :=
  bigSep_univ_eq_bigSepL [(0 : Fin 2), (1 : Fin 2)] (by decide) (by decide) P

omit [FloatOps F] in
theorem ahead_one (k : Fin 4) (f : Buf (Elt F) (M.view.loc (c : Thread nD τ))) : (iprop(dstP c M 0 k f ∗ dstP c M 1 k f ∗ dstP c M 2 k f ∗ dstP c M 3 k f) : sProp 𝕄) ⊢ aheadR c M k := by
  unfold aheadR
  iintro ⟨H0, H1, H2, H3⟩
  isplitl [H0]; · iexists f; iexact H0
  isplitl [H1]; · iexists f; iexact H1
  isplitl [H2]; · iexists f; iexact H2
  iexists f; iexact H3
omit [FloatOps F] in
/-- The whole result is its pieces before any is written. -/
theorem ahead_all (f : Buf (Elt F) (M.view.loc (c : Thread nD τ))) : (inP c M f : sProp 𝕄) ⊢ bigSep Finset.univ (aheadR c M) := by
  rw [pieces_eq]
  refine BI.bigSep_mono fun k _ => ?_
  rw [bigSep_fin4]
  exact ahead_one c M k f

omit [FloatOps F] in
/-- The pieces written are the whole result at what was written. -/
theorem behind_all (G : Buf (Elt F) (M.view.loc (c : Thread nD τ))) : bigSep Finset.univ (behindR c M G) = (inP c M G : sProp 𝕄) := by
  rw [pieces_eq]
  refine BI.bigSep_congr fun k _ => ?_
  rw [bigSep_fin4]
  rfl

omit [FloatOps F] in
/-- The whole accumulator is its two slots. -/
theorem slots_split : (iprop(∃ f, inP c A f) : sProp 𝕄) ⊢ iprop((∃ f, slotP c A 0 fullShare f) ∗ ∃ f, slotP c A 1 fullShare f) := by
  iintro ⟨%f, H⟩
  have e := pointsTo_biUnion (Ix := Unit) (Name := ℕ) (U := UU nD τ) (Lvl := ℕ) (q := fullShare) (f := f) Finset.univ (slotS A) (fun b _ d _ h => slotS_disjoint A b d h)
  rw [slotS_cover, bigSep_two] at e
  ihave H := (BIBase.Entails.of_eq e) $$ H
  icases H with ⟨H0, H1⟩
  isplitl [H0]
  · iexists f; iapply (BIBase.Entails.of_eq (slotP_eq c A 0 f).symm); iexact H0
  · iexists f; iapply (BIBase.Entails.of_eq (slotP_eq c A 1 f).symm); iexact H1

omit [FloatOps F] in
/-- The two slots are the whole accumulator. -/
theorem slots_join : (iprop((∃ f, slotP c A 0 fullShare f) ∗ ∃ f, slotP c A 1 fullShare f) : sProp 𝕄) ⊢ iprop(∃ f, inP c A f) := by
  iintro ⟨⟨%f, H0⟩, ⟨%g, H1⟩⟩
  have J := pointsTo_biUnion_join (ℓ := A.view.loc (c : Thread nD τ)) (Ix := Unit) (Name := ℕ) (U := UU nD τ) (Lvl := ℕ) (q := fullShare) (Finset.univ : Finset (Fin 2)) (slotS A) ![f, g] f (fun b _ d _ h => slotS_disjoint A b d h)
  rw [slotS_cover, bigSep_two] at J
  ihave H0 := (BIBase.Entails.of_eq (slotP_eq c A 0 f)) $$ H0
  ihave H1 := (BIBase.Entails.of_eq (slotP_eq c A 1 g)) $$ H1
  ihave H := J $$ [H0 H1]
  · isplitl [H0]; · iexact H0
    iexact H1
  icases H with ⟨%h, -, H⟩
  iexists h; iexact H
end

/-- The result whose column block `k` is four copies of `sv k`, one per group. -/
def outVal (sv : Fin 4 → S2048x512.Idx → Elt F .f32) : S8192x2048.Idx → Elt F .f32 := fun y =>
  sv ⟨(y 1).val / 512, by have : (y 1).val < 2048 := (y 1).isLt; omega⟩
    (fun a => match a with
      | ⟨0, _⟩ => ⟨(y 0).val % 2048, Nat.mod_lt _ (by decide)⟩
      | ⟨1, _⟩ => ⟨(y 1).val % 512, Nat.mod_lt _ (by decide)⟩
      | ⟨n + 2, h⟩ => absurd h (by change ¬(n + 2 < 2); omega))

omit [FloatOps F] in
/-- A piece of it is the copy it was made of. -/
theorem outVal_piece (sv : Fin 4 → S2048x512.Idx → Elt F .f32) (r k : Fin 4) (x : S2048x512.Idx) :
    outVal sv ((Rect.unit (s := S8192x2048) (dstOff r k) S2048x512.size (dstOff_inb r k)).emb x) = sv k x := by
  have h0 : (x 0).val < 2048 := (x 0).isLt
  have h1 : (x 1).val < 512 := (x 1).isLt
  have e0 : ((Rect.unit (s := S8192x2048) (dstOff r k) S2048x512.size (dstOff_inb r k)).emb x 0).val = 2048 * r.val + (x 0).val := by rw [Rect.emb_apply]; change 2048 * r.val + 1 * (x 0).val = _; omega
  have e1 : ((Rect.unit (s := S8192x2048) (dstOff r k) S2048x512.size (dstOff_inb r k)).emb x 1).val = 512 * k.val + (x 1).val := by rw [Rect.emb_apply]; change 512 * k.val + 1 * (x 1).val = _; omega
  unfold outVal
  refine congr (congrArg sv (Fin.ext (by simp only [e1]; omega))) (funext fun a => Fin.ext ?_)
  fin_cases a
  · change _ % 2048 = (x 0).val; rw [e0]; omega
  · change _ % 512 = (x 1).val; rw [e1]; omega

end Cert.KernelIdeal.Own

end
-- ==== Proof.Ideal.RingStep.lean ====
/-
  One step of a ring of two slots over four steps: what a step's run has to show in each class of steps.
-/
module

public import proofs.«01_k».proof.Proof.Ideal.Steps
public import Idealize.ShloMosaic.Lib.Ring.WriteBehind

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A program that, in the class of its step, does what the ring asks takes the ring one step further. -/
theorem ring_wp (c : Dev nD) (W O : sProp 𝕄) (free : Fin 2 → sProp 𝕄) (infl : Fin 2 → Fin 4 → sProp 𝕄) (ahead behind : Fin 4 → sProp 𝕄)
    (e : Prog (TpuEff nD τ sig (Elt F) Λ₀ .tc) PUnit) (k : ℕ) (hk : k < 4)
    (hA : k < 2 → iprop(W ∗ free (Ring.sl 2 k) ∗ ahead (Ring.bk 4 k)) ⊢ wp frame (wpE (defs₀ (F := F)) 𝒱₀ (c : Thread nD τ) none) Set.univ e (fun _ => iprop(W ∗ infl (Ring.sl 2 k) (Ring.bk 4 k))))
    (hB : 2 ≤ k → k < 3 → iprop(W ∗ O ∗ infl (Ring.sl 2 k) (Ring.bk 4 (k - 2)) ∗ ahead (Ring.bk 4 k)) ⊢ wp frame (wpE (defs₀ (F := F)) 𝒱₀ (c : Thread nD τ) none) Set.univ e (fun _ => iprop(W ∗ O ∗ behind (Ring.bk 4 (k - 2)) ∗ infl (Ring.sl 2 k) (Ring.bk 4 k))))
    (hC : k = 3 → iprop(W ∗ O ∗ infl (Ring.sl 2 k) (Ring.bk 4 (k - 2)) ∗ infl (Ring.sl 2 (k + 1)) (Ring.bk 4 (k - 1)) ∗ ahead (Ring.bk 4 k)) ⊢ wp frame (wpE (defs₀ (F := F)) 𝒱₀ (c : Thread nD τ) none) Set.univ e (fun _ => iprop(W ∗ O ∗ behind (Ring.bk 4 (k - 2)) ∗ behind (Ring.bk 4 (k - 1)) ∗ behind (Ring.bk 4 k) ∗ free (Ring.sl 2 k) ∗ free (Ring.sl 2 (k + 1))))) :
    iprop(W ∗ O ∗ Ring.AtBΦ 2 free infl ahead behind k) ⊢ wp frame (wpE (defs₀ (F := F)) 𝒱₀ (c : Thread nD τ) none) Set.univ e (fun _ => iprop(W ∗ O ∗ Ring.AtBΦ 2 free infl ahead behind (k + 1))) := by
  rw [Ring.AtBΦ_lt _ _ _ _ _ k hk]
  by_cases h0 : k = 0
  · rw [Ring.AtBΦ_lt _ _ _ _ _ (k + 1) (by omega), Ring.AtB2_zero' 2 free infl ahead behind k h0, Ring.AtB22_next_zero' free infl ahead behind k h0]
    iintro ⟨HW, HO, ⟨Ha, Hr⟩, Hf, Hg⟩
    iapply (wp_wand_r frame (wpE (defs₀ (F := F)) 𝒱₀ (c : Thread nD τ) none) Set.univ)
    isplitl [HW Hf Ha]
    · iapply (hA (by omega))
      iframe
    · iintro %_ ⟨HW, Hi⟩
      iframe
  by_cases h1 : k = 1
  · rw [Ring.AtBΦ_lt _ _ _ _ _ (k + 1) (by omega), Ring.AtB22_one' free infl ahead behind k h1 (by omega), Ring.AtB22_next_one' free infl ahead behind k h1]
    iintro ⟨HW, HO, ⟨Ha, Hr⟩, Hf, Hg⟩
    iapply (wp_wand_r frame (wpE (defs₀ (F := F)) 𝒱₀ (c : Thread nD τ) none) Set.univ)
    isplitl [HW Hf Ha]
    · iapply (hA (by omega))
      iframe
    · iintro %_ ⟨HW, Hi⟩
      iframe
  by_cases h2 : k = 2
  · rw [Ring.AtBΦ_lt _ _ _ _ _ (k + 1) (by omega), Ring.AtB22_here free infl ahead behind k (by omega) hk, Ring.AtB22_next free infl ahead behind k (by omega) hk]
    iintro ⟨HW, HO, ⟨Ha, Hr⟩, Hb, Hf, Hg⟩
    iapply (wp_wand_r frame (wpE (defs₀ (F := F)) 𝒱₀ (c : Thread nD τ) none) Set.univ)
    isplitl [HW HO Hf Ha]
    · iapply (hB (by omega) (by omega))
      iframe
    · iintro %_ ⟨HW, HO, Hd, Hi⟩
      iframe
  · rw [Ring.AtBΦ_end _ _ _ _ _ (k + 1) (by omega), Ring.AtB22_here_last free infl ahead behind k (by omega) (by omega), Ring.AtB22_drained free behind k (by omega) (by omega)]
    iintro ⟨HW, HO, Ha, Hb, Hf, Hg⟩
    iapply (wp_wand_r frame (wpE (defs₀ (F := F)) 𝒱₀ (c : Thread nD τ) none) Set.univ)
    isplitl [HW HO Hf Hg Ha]
    · iapply (hC (by omega))
      iframe
    · iintro %_ ⟨HW, HO, Hd, He, Hh, Hi, Hj⟩
      iframe

end Cert.KernelIdeal.Own

end
-- ==== Proof.Ideal.Region0.lean ====
/-
  The first pipeline as a region of the program: what it holds from point to point, and its body at every point.
-/
module

public import proofs.«01_k».proof.Proof.Ideal.Body0
public import proofs.«01_k».proof.Proof.Ideal.Pieces
public import proofs.«01_k».proof.Proof.Ideal.RingStep

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ) ℕ

/-- Regrouping a separating conjunction. -/
theorem regroup (P Q R : sProp 𝕄) : iprop((P ∗ Q) ∗ R) = iprop(P ∗ Q ∗ R) := equiv_iff.mp ⟨BI.sep_assoc, BI.sep_assoc'⟩

/-- The ring of copies of the first pipeline before step `p`. -/
def ring0 (c : Dev nD) (G : Buf (Elt F) (outM0.view.loc (c : Thread nD τ))) (p : ℕ) : sProp 𝕄 :=
  Ring.AtBΦ 2 (freeR c accM0 cc0_scratch1) (inflR c outM0 accM0 cc0_scratch1 G) (aheadR c outM0) (behindR c outM0 G) p

theorem cond1_0 : ∀ i : grid0.Coords, k0_cond1 i = 1#1 ↔ 2 ≤ (i 0).val := by decide +kernel
theorem cond2_0 : ∀ i : grid0.Coords, k0_cond2 i = 1#1 ↔ (i 0).val = 3 := by decide +kernel

section
variable (c : Dev nD) (i : grid0.Coords)
variable (arg1 : Memref sig .tc .smem S8 .i32) (harg1 : arg1.IsWhole) (arg2 : Memref sig .tc .vmem S16x512 .f32) (harg2 : arg2.IsWhole) (arg3 : Memref sig .tc .vmem S32x512 .f32) (harg3 : arg3.IsWhole) (arg4 : Memref sig .tc .vmem S64x512 .f32) (harg4 : arg4.IsWhole) (arg5 : Memref sig .tc .vmem S128x512 .f32) (harg5 : arg5.IsWhole) (arg6 : Memref sig .tc .vmem S256x512 .f32) (harg6 : arg6.IsWhole) (arg7 : Memref sig .tc .vmem S512x512 .f32) (harg7 : arg7.IsWhole) (arg8 : Memref sig .tc .vmem S1024x512 .f32) (harg8 : arg8.IsWhole) (arg9 : Memref sig .tc .vmem S2048x512 .f32) (harg9 : arg9.IsWhole)
variable (G : Buf (Elt F) (outM0.view.loc (c : Thread nD τ)))

/-- The body at any step takes the ring one step further. -/
theorem step0 (o w2 w3 w4 w5 w6 w7 w8 w9)
    (hG : ∀ r, (dst outM0 r (Ring.bk 4 (i 0).val)).view.read (Elt F) G = stepVal0 o w2 w3 w4 w5 w6 w7 w8 w9) :
    iprop((inP c arg1 (arg1.view.rep o) ∗ wins c arg2 arg3 arg4 arg5 arg6 arg7 arg8 arg9 w2 w3 w4 w5 w6 w7 w8 w9) ∗ (∃ W, owes (c : Thread nD τ) 0 W) ∗ ring0 c G (i 0).val)
      ⊢ wp frame (wpE (defs₀ (F := F)) 𝒱₀ (c : Thread nD τ) none) Set.univ (body0 (F := F) i arg1 harg1 arg2 harg2 arg3 harg3 arg4 harg4 arg5 harg5 arg6 harg6 arg7 harg7 arg8 harg8 arg9 harg9)
        (fun _ => iprop((inP c arg1 (arg1.view.rep o) ∗ wins c arg2 arg3 arg4 arg5 arg6 arg7 arg8 arg9 w2 w3 w4 w5 w6 w7 w8 w9) ∗ (∃ W, owes (c : Thread nD τ) 0 W) ∗ ring0 c G ((i 0).val + 1))) :=
  ring_wp c _ _ _ _ _ _ _ (i 0).val (i 0).isLt
    (fun h => by
      have R := run0A c i arg1 harg1 arg2 harg2 arg3 harg3 arg4 harg4 arg5 harg5 arg6 harg6 arg7 harg7 arg8 harg8 arg9 harg9 G (fun e => by have := (cond1_0 i).1 e; omega) (fun e => by have := (cond2_0 i).1 e; omega) o w2 w3 w4 w5 w6 w7 w8 w9 hG
      simp only [← regroup (inP c arg1 (arg1.view.rep o)) (wins c arg2 arg3 arg4 arg5 arg6 arg7 arg8 arg9 w2 w3 w4 w5 w6 w7 w8 w9)] at R
      exact R)
    (fun h h' => by
      have R := run0B c i arg1 harg1 arg2 harg2 arg3 harg3 arg4 harg4 arg5 harg5 arg6 harg6 arg7 harg7 arg8 harg8 arg9 harg9 G ((cond1_0 i).2 h) (fun e => by have := (cond2_0 i).1 e; omega) o w2 w3 w4 w5 w6 w7 w8 w9 hG
      simp only [← regroup (inP c arg1 (arg1.view.rep o)) (wins c arg2 arg3 arg4 arg5 arg6 arg7 arg8 arg9 w2 w3 w4 w5 w6 w7 w8 w9)] at R
      exact R)
    (fun h => by
      have R := run0C c i arg1 harg1 arg2 harg2 arg3 harg3 arg4 harg4 arg5 harg5 arg6 harg6 arg7 harg7 arg8 harg8 arg9 harg9 G ((cond1_0 i).2 (by omega)) ((cond2_0 i).2 h) o w2 w3 w4 w5 w6 w7 w8 w9 hG
      simp only [← regroup (inP c arg1 (arg1.view.rep o)) (wins c arg2 arg3 arg4 arg5 arg6 arg7 arg8 arg9 w2 w3 w4 w5 w6 w7 w8 w9)] at R
      exact R)
end

/-! ## The region's data -/

section
variable (a : (pcfg0 (F := F)).Adm) (m : (ℓ : Loc nD τ sig) → Buf (Elt F) ℓ)

/-- Window `w`'s block at point `t`. -/
def iblk0 (c : Dev nD) (w : Fin 8) (t : Fin grid0.N) : ((cfg0 a).win w).block.Idx → Elt F ((cfg0 a).win w).elt :=
  (((cfg0 a).win w).blk t).view.read (Elt F) (m ((c : Thread nD τ).loc (Pipeline.arrRef spec0 w)))

/-- The table's eight words. -/
def tab0 : S8.Idx → Elt F .i32 := (Memref.whole main_v0).view.read (Elt F) (a.1 0)

/-- The table as the pipeline holds it is the table's buffer, whole. -/
theorem table0 (c : Dev nD) : (prefHeld pre0 c (fun _ => fullShare) a.1 : sProp 𝕄) = inP c (Memref.whole main_v0) ((Memref.whole main_v0).view.rep (tab0 a)) := by
  have h : (inP c (Memref.whole main_v0) (a.1 0) : sProp 𝕄) = inP c (Memref.whole main_v0) ((Memref.whole main_v0).view.rep (tab0 a)) :=
    pointsTo_rep (Lvl := ℕ) (c : Thread nD τ) (Memref.whole main_v0) (a.1 0) fullShare
  rw [← h]
  unfold prefHeld inP
  rw [show (Memref.whole main_v0).view.set = Finset.univ from View.set_whole _]
  exact (bigSep_univ_eq_bigSepL [(0 : Fin 1)] (by decide) (by decide) _).trans rfl

/-- What a step stores at point `t`. -/
def sv0 (c : Dev nD) (t : Fin grid0.N) : S2048x512.Idx → Elt F .f32 :=
  stepVal0 (tab0 a) (iblk0 a m c 0 t) (iblk0 a m c 1 t) (iblk0 a m c 2 t) (iblk0 a m c 3 t) (iblk0 a m c 4 t) (iblk0 a m c 5 t) (iblk0 a m c 6 t) (iblk0 a m c 7 t)

/-- What the first pipeline leaves in its result. -/
def G0 (c : Dev nD) : Buf (Elt F) (outM0.view.loc (c : Thread nD τ)) :=
  outVal fun k => sv0 a m c (k.cast N_0.symm)

theorem coord0 : ∀ t : Fin grid0.N, (grid0.coords t 0).val = t.val := by decide +kernel
theorem point0 : ∀ t : Fin grid0.N, (Ring.bk 4 (grid0.coords t 0).val).cast N_0.symm = t := by decide +kernel

theorem hG0 (c : Dev nD) (t : Fin grid0.N) (r : Fin 4) : (dst outM0 r (Ring.bk 4 (grid0.coords t 0).val)).view.read (Elt F) (G0 a m c) = sv0 a m c t := by
  funext x
  refine (outVal_piece (fun k => sv0 a m c (k.cast N_0.symm)) r _ x).trans ?_
  rw [point0]

/-- What is held from point to point: the ring, the table, and the buffers the pipeline does not use. -/
def Φ0 (c : Dev nD) (p : ℕ) : sProp 𝕄 :=
  iprop(ring0 c (G0 a m c) p ∗ prefHeld pre0 c (fun _ => fullShare) a.1 ∗ ((∃ f, inP c accM0 f) -∗ scopedRest spec0 c))

/-- The region's data. -/
def dat0 (c : Dev nD) : Dat τ (Elt F) Unit ℕ (UU nD τ) ℕ (cfg0 a) c where
  A w := m ((c : Thread nD τ).loc (Pipeline.arrRef spec0 w))
  after w t := iblk0 a m c w t
  Φ p := Φ0 a m c p.val
  q _ := fullShare
  owed _ := 0

/-- Every window is fetched at every point. -/
theorem fetch0 : ∀ (w : Fin 8) (t : Fin grid0.N), Window.fetchOf grid0 false (ix0 a.1 w) t = true := fun
  | 0 => (by decide +kernel : ∀ t : Fin grid0.N, Window.fetchOf grid0 false cc0_transform_0 t = true)
  | 1 => (by decide +kernel : ∀ t : Fin grid0.N, Window.fetchOf grid0 false cc0_transform_1 t = true)
  | 2 => (by decide +kernel : ∀ t : Fin grid0.N, Window.fetchOf grid0 false cc0_transform_2 t = true)
  | 3 => (by decide +kernel : ∀ t : Fin grid0.N, Window.fetchOf grid0 false cc0_transform_3 t = true)
  | 4 => (by decide +kernel : ∀ t : Fin grid0.N, Window.fetchOf grid0 false cc0_transform_4 t = true)
  | 5 => (by decide +kernel : ∀ t : Fin grid0.N, Window.fetchOf grid0 false cc0_transform_5 t = true)
  | 6 => (by decide +kernel : ∀ t : Fin grid0.N, Window.fetchOf grid0 false cc0_transform_6 t = true)
  | 7 => (by decide +kernel : ∀ t : Fin grid0.N, Window.fetchOf grid0 false cc0_transform_7 t = true)
  | ⟨_ + 8, h⟩ => absurd h (Nat.not_lt.2 (Nat.le_add_left _ _))

set_option backward.isDefEq.respectTransparency.types false in
theorem before0 (c : Dev nD) (w : Fin 8) (t : Fin grid0.N) (d) : (dat0 a m c).before w t d = iblk0 a m c w t := by
  have hf : ((cfg0 a).win w).fetch t = true := by
    rw [Window.fetch_eq_fetchOf]; have := fetch0 a w t; fin_cases w <;> exact this
  unfold Dat.before; rw [if_pos hf]
  unfold Dat.fetched Dat.blockOf iblk0; dsimp only [dat0]; fin_cases w <;> rfl
theorem after0 (c : Dev nD) (w : Fin 8) (t : Fin grid0.N) : (dat0 a m c).after w t = iblk0 a m c w t := rfl

/-- The staging buffer window `w` uses at point `t`. -/
abbrev st0 (w : Fin 8) (t : Fin grid0.N) := (spec0 w).stage ((cfg0 a).slots t w)

theorem defs_tc0 : (defs₀ (F := F)) .tc (cfg0 a).body = fun x : Fin grid0.N × ((w : Fin 8) → Fin (spec0 w).nbuf) =>
    body0 (F := F) (grid0.coords x.1) (Memref.whole main_v0) (Memref.isWhole_whole _) (spec0_0.stage (x.2 0)) (hstage0_0 ((x.2 0).cast nbuf0_0)) (spec0_1.stage (x.2 1)) (hstage0_1 ((x.2 1).cast nbuf0_1)) (spec0_2.stage (x.2 2)) (hstage0_2 ((x.2 2).cast nbuf0_2)) (spec0_3.stage (x.2 3)) (hstage0_3 ((x.2 3).cast nbuf0_3)) (spec0_4.stage (x.2 4)) (hstage0_4 ((x.2 4).cast nbuf0_4)) (spec0_5.stage (x.2 5)) (hstage0_5 ((x.2 5).cast nbuf0_5)) (spec0_6.stage (x.2 6)) (hstage0_6 ((x.2 6).cast nbuf0_6)) (spec0_7.stage (x.2 7)) (hstage0_7 ((x.2 7).cast nbuf0_7)) := rfl
theorem prog_eq0 (t : Fin grid0.N) : (defs₀ (F := F)) .tc (cfg0 a).body ((cfg0 a).bodyArgs t ((cfg0 a).slots t)) =
    body0 (F := F) (grid0.coords t) (Memref.whole main_v0) (Memref.isWhole_whole _) (st0 a 0 t) (hstage0_0 (((cfg0 a).slots t 0).cast nbuf0_0)) (st0 a 1 t) (hstage0_1 (((cfg0 a).slots t 1).cast nbuf0_1)) (st0 a 2 t) (hstage0_2 (((cfg0 a).slots t 2).cast nbuf0_2)) (st0 a 3 t) (hstage0_3 (((cfg0 a).slots t 3).cast nbuf0_3)) (st0 a 4 t) (hstage0_4 (((cfg0 a).slots t 4).cast nbuf0_4)) (st0 a 5 t) (hstage0_5 (((cfg0 a).slots t 5).cast nbuf0_5)) (st0 a 6 t) (hstage0_6 (((cfg0 a).slots t 6).cast nbuf0_6)) (st0 a 7 t) (hstage0_7 (((cfg0 a).slots t 7).cast nbuf0_7)) :=
  (congrFun (defs_tc0 a) _).trans rfl

set_option backward.isDefEq.respectTransparency.types false in
set_option maxHeartbeats 2000000 in
/-- The body meets the region's data at every point. -/
theorem body_obligation0 (c : Dev nD) : BodyObligation (dat0 a m c) (defs₀ (F := F)) 𝒱₀ () Set.univ := fun t => by
  rw [bigSep_W0, bigSep_W0]
  dsimp only
  simp only [before0, after0]
  rw [show (dat0 a m c).Φ t.castSucc = Φ0 a m c t.val from rfl, show (dat0 a m c).Φ t.succ = Φ0 a m c (t.val + 1) from rfl]
  unfold Dat.owesAt Pipeline.owesWithin
  rw [show (dat0 a m c).owed t.castSucc = 0 from rfl, show (dat0 a m c).owed t.succ = 0 from rfl]
  unfold owns Φ0
  rw [table0]
  iintro ⟨⟨HR, HT, HS⟩, ⟨%W, -, HW⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩⟩
  ihave H0 := (pointsTo_rep_entails (c : Thread nD τ) (st0 a 0 t) g0 fullShare) $$ H0
  ihave H1 := (pointsTo_rep_entails (c : Thread nD τ) (st0 a 1 t) g1 fullShare) $$ H1
  ihave H2 := (pointsTo_rep_entails (c : Thread nD τ) (st0 a 2 t) g2 fullShare) $$ H2
  ihave H3 := (pointsTo_rep_entails (c : Thread nD τ) (st0 a 3 t) g3 fullShare) $$ H3
  ihave H4 := (pointsTo_rep_entails (c : Thread nD τ) (st0 a 4 t) g4 fullShare) $$ H4
  ihave H5 := (pointsTo_rep_entails (c : Thread nD τ) (st0 a 5 t) g5 fullShare) $$ H5
  ihave H6 := (pointsTo_rep_entails (c : Thread nD τ) (st0 a 6 t) g6 fullShare) $$ H6
  ihave H7 := (pointsTo_rep_entails (c : Thread nD τ) (st0 a 7 t) g7 fullShare) $$ H7
  rw [h0, h1, h2, h3, h4, h5, h6, h7]
  sl_rw [prog_eq0 a t]
  have S := step0 c (grid0.coords t) (Memref.whole main_v0) (Memref.isWhole_whole _) (st0 a 0 t) (hstage0_0 (((cfg0 a).slots t 0).cast nbuf0_0)) (st0 a 1 t) (hstage0_1 (((cfg0 a).slots t 1).cast nbuf0_1)) (st0 a 2 t) (hstage0_2 (((cfg0 a).slots t 2).cast nbuf0_2)) (st0 a 3 t) (hstage0_3 (((cfg0 a).slots t 3).cast nbuf0_3)) (st0 a 4 t) (hstage0_4 (((cfg0 a).slots t 4).cast nbuf0_4)) (st0 a 5 t) (hstage0_5 (((cfg0 a).slots t 5).cast nbuf0_5)) (st0 a 6 t) (hstage0_6 (((cfg0 a).slots t 6).cast nbuf0_6)) (st0 a 7 t) (hstage0_7 (((cfg0 a).slots t 7).cast nbuf0_7)) (G0 a m c)
    (tab0 a) (iblk0 a m c 0 t) (iblk0 a m c 1 t) (iblk0 a m c 2 t) (iblk0 a m c 3 t) (iblk0 a m c 4 t) (iblk0 a m c 5 t) (iblk0 a m c 6 t) (iblk0 a m c 7 t) (hG0 a m c t)
  rw [coord0 t] at S
  iapply (wp_wand_r frame (wpE (defs₀ (F := F)) 𝒱₀ (c : Thread nD τ) none) Set.univ)
  isplitl [H0 H1 H2 H3 H4 H5 H6 H7 HW HR HT]
  · iapply S
    isplitl [H0 H1 H2 H3 H4 H5 H6 H7 HT]
    · isplitl [HT]; · iexact HT
      unfold wins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HW]; · iexists W; iexact HW
    iexact HR
  · unfold wins
    iintro %_ ⟨⟨HT, H0, H1, H2, H3, H4, H5, H6, H7⟩, ⟨%W', HW⟩, HR⟩
    isplitl [HR HT HS]
    · isplitl [HR]; · iexact HR
      isplitl [HT]; · iexact HT
      iexact HS
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    iexists _; isplitr; · ipureintro; exact View.read_rep _ _
    iexact H7
end

end Cert.KernelIdeal.Own

end
-- ==== Proof.Ideal.Region1.lean ====
/-
  The second pipeline as a region of the program: what it holds from point to point, and its body at every point.
-/
module

public import proofs.«01_k».proof.Proof.Ideal.Body1
public import proofs.«01_k».proof.Proof.Ideal.Pieces
public import proofs.«01_k».proof.Proof.Ideal.RingStep

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ) ℕ

/-- The ring of copies of the second pipeline before step `p`. -/
def ring1 (c : Dev nD) (G : Buf (Elt F) (outM1.view.loc (c : Thread nD τ))) (p : ℕ) : sProp 𝕄 :=
  Ring.AtBΦ 2 (freeR c accM1 cc1_scratch1) (inflR c outM1 accM1 cc1_scratch1 G) (aheadR c outM1) (behindR c outM1 G) p

theorem cond1_1 : ∀ i : grid1.Coords, k1_cond1 i = 1#1 ↔ 2 ≤ (i 0).val := by decide +kernel
theorem cond2_1 : ∀ i : grid1.Coords, k1_cond2 i = 1#1 ↔ (i 0).val = 3 := by decide +kernel

section
variable (c : Dev nD) (i : grid1.Coords)
variable (arg1 : Memref sig .tc .smem S8 .i32) (harg1 : arg1.IsWhole) (arg2 : Memref sig .tc .vmem S16x512 .f32) (harg2 : arg2.IsWhole) (arg3 : Memref sig .tc .vmem S32x512 .f32) (harg3 : arg3.IsWhole) (arg4 : Memref sig .tc .vmem S64x512 .f32) (harg4 : arg4.IsWhole) (arg5 : Memref sig .tc .vmem S128x512 .f32) (harg5 : arg5.IsWhole) (arg6 : Memref sig .tc .vmem S256x512 .f32) (harg6 : arg6.IsWhole) (arg7 : Memref sig .tc .vmem S512x512 .f32) (harg7 : arg7.IsWhole) (arg8 : Memref sig .tc .vmem S1024x512 .f32) (harg8 : arg8.IsWhole) (arg9 : Memref sig .tc .vmem S2048x512 .f32) (harg9 : arg9.IsWhole)
variable (G : Buf (Elt F) (outM1.view.loc (c : Thread nD τ)))

/-- The body at any step takes the ring one step further. -/
theorem step1 (w2 w3 w4 w5 w6 w7 w8 w9)
    (hG : ∀ r, (dst outM1 r (Ring.bk 4 (i 0).val)).view.read (Elt F) G = stepVal1 w2 w3 w4 w5 w6 w7 w8 w9) :
    iprop(wins c arg2 arg3 arg4 arg5 arg6 arg7 arg8 arg9 w2 w3 w4 w5 w6 w7 w8 w9 ∗ (∃ W, owes (c : Thread nD τ) 0 W) ∗ ring1 c G (i 0).val)
      ⊢ wp frame (wpE (defs₀ (F := F)) 𝒱₀ (c : Thread nD τ) none) Set.univ (body1 (F := F) i arg1 harg1 arg2 harg2 arg3 harg3 arg4 harg4 arg5 harg5 arg6 harg6 arg7 harg7 arg8 harg8 arg9 harg9)
        (fun _ => iprop(wins c arg2 arg3 arg4 arg5 arg6 arg7 arg8 arg9 w2 w3 w4 w5 w6 w7 w8 w9 ∗ (∃ W, owes (c : Thread nD τ) 0 W) ∗ ring1 c G ((i 0).val + 1))) :=
  ring_wp c _ _ _ _ _ _ _ (i 0).val (i 0).isLt
    (fun h => run1A c i arg1 harg1 arg2 harg2 arg3 harg3 arg4 harg4 arg5 harg5 arg6 harg6 arg7 harg7 arg8 harg8 arg9 harg9 G (fun e => by have := (cond1_1 i).1 e; omega) (fun e => by have := (cond2_1 i).1 e; omega) w2 w3 w4 w5 w6 w7 w8 w9 hG)
    (fun h h' => run1B c i arg1 harg1 arg2 harg2 arg3 harg3 arg4 harg4 arg5 harg5 arg6 harg6 arg7 harg7 arg8 harg8 arg9 harg9 G ((cond1_1 i).2 h) (fun e => by have := (cond2_1 i).1 e; omega) w2 w3 w4 w5 w6 w7 w8 w9 hG)
    (fun h => run1C c i arg1 harg1 arg2 harg2 arg3 harg3 arg4 harg4 arg5 harg5 arg6 harg6 arg7 harg7 arg8 harg8 arg9 harg9 G ((cond1_1 i).2 (by omega)) ((cond2_1 i).2 h) w2 w3 w4 w5 w6 w7 w8 w9 hG)
end

/-! ## The region's data -/

section
variable (a : (pcfg1 (F := F)).Adm) (m : (ℓ : Loc nD τ sig) → Buf (Elt F) ℓ)

/-- Window `w`'s block at point `t`. -/
def iblk1 (c : Dev nD) (w : Fin 8) (t : Fin grid1.N) : ((cfg1 a).win w).block.Idx → Elt F ((cfg1 a).win w).elt :=
  (((cfg1 a).win w).blk t).view.read (Elt F) (m ((c : Thread nD τ).loc (Pipeline.arrRef spec1 w)))

/-- What a step stores at point `t`. -/
def sv1 (c : Dev nD) (t : Fin grid1.N) : S2048x512.Idx → Elt F .f32 :=
  stepVal1 (iblk1 a m c 0 t) (iblk1 a m c 1 t) (iblk1 a m c 2 t) (iblk1 a m c 3 t) (iblk1 a m c 4 t) (iblk1 a m c 5 t) (iblk1 a m c 6 t) (iblk1 a m c 7 t)

/-- What the second pipeline leaves in its result. -/
def G1 (c : Dev nD) : Buf (Elt F) (outM1.view.loc (c : Thread nD τ)) :=
  outVal fun k => sv1 a m c (k.cast N_1.symm)

theorem coord1 : ∀ t : Fin grid1.N, (grid1.coords t 0).val = t.val := by decide +kernel
theorem point1 : ∀ t : Fin grid1.N, (Ring.bk 4 (grid1.coords t 0).val).cast N_1.symm = t := by decide +kernel

theorem hG1 (c : Dev nD) (t : Fin grid1.N) (r : Fin 4) : (dst outM1 r (Ring.bk 4 (grid1.coords t 0).val)).view.read (Elt F) (G1 a m c) = sv1 a m c t := by
  funext x
  refine (outVal_piece (fun k => sv1 a m c (k.cast N_1.symm)) r _ x).trans ?_
  rw [point1]

/-- What is held from point to point: the ring, the table, and the buffers the pipeline does not use. -/
def Φ1 (c : Dev nD) (p : ℕ) : sProp 𝕄 :=
  iprop(ring1 c (G1 a m c) p ∗ prefHeld pre1 c (fun _ => fullShare) a.1 ∗ ((∃ f, inP c accM1 f) -∗ scopedRest spec1 c))

/-- The region's data. -/
def dat1 (c : Dev nD) : Dat τ (Elt F) Unit ℕ (UU nD τ) ℕ (cfg1 a) c where
  A w := m ((c : Thread nD τ).loc (Pipeline.arrRef spec1 w))
  after w t := iblk1 a m c w t
  Φ p := Φ1 a m c p.val
  q _ := fullShare
  owed _ := 0

/-- Every window is fetched at every point. -/
theorem fetch1 : ∀ (w : Fin 8) (t : Fin grid1.N), Window.fetchOf grid1 false (ix1 a.1 w) t = true := fun
  | 0 => (by decide +kernel : ∀ t : Fin grid1.N, Window.fetchOf grid1 false cc1_transform_0 t = true)
  | 1 => (by decide +kernel : ∀ t : Fin grid1.N, Window.fetchOf grid1 false cc1_transform_1 t = true)
  | 2 => (by decide +kernel : ∀ t : Fin grid1.N, Window.fetchOf grid1 false cc1_transform_2 t = true)
  | 3 => (by decide +kernel : ∀ t : Fin grid1.N, Window.fetchOf grid1 false cc1_transform_3 t = true)
  | 4 => (by decide +kernel : ∀ t : Fin grid1.N, Window.fetchOf grid1 false cc1_transform_4 t = true)
  | 5 => (by decide +kernel : ∀ t : Fin grid1.N, Window.fetchOf grid1 false cc1_transform_5 t = true)
  | 6 => (by decide +kernel : ∀ t : Fin grid1.N, Window.fetchOf grid1 false cc1_transform_6 t = true)
  | 7 => (by decide +kernel : ∀ t : Fin grid1.N, Window.fetchOf grid1 false cc1_transform_7 t = true)
  | ⟨_ + 8, h⟩ => absurd h (Nat.not_lt.2 (Nat.le_add_left _ _))

set_option backward.isDefEq.respectTransparency.types false in
theorem before1 (c : Dev nD) (w : Fin 8) (t : Fin grid1.N) (d) : (dat1 a m c).before w t d = iblk1 a m c w t := by
  have hf : ((cfg1 a).win w).fetch t = true := by
    rw [Window.fetch_eq_fetchOf]; have := fetch1 a w t; fin_cases w <;> exact this
  unfold Dat.before; rw [if_pos hf]
  unfold Dat.fetched Dat.blockOf iblk1; dsimp only [dat1]; fin_cases w <;> rfl
theorem after1 (c : Dev nD) (w : Fin 8) (t : Fin grid1.N) : (dat1 a m c).after w t = iblk1 a m c w t := rfl

/-- The staging buffer window `w` uses at point `t`. -/
abbrev st1 (w : Fin 8) (t : Fin grid1.N) := (spec1 w).stage ((cfg1 a).slots t w)

theorem defs_tc1 : (defs₀ (F := F)) .tc (cfg1 a).body = fun x : Fin grid1.N × ((w : Fin 8) → Fin (spec1 w).nbuf) =>
    body1 (F := F) (grid1.coords x.1) (Memref.whole main_v0) (Memref.isWhole_whole _) (spec1_0.stage (x.2 0)) (hstage1_0 ((x.2 0).cast nbuf1_0)) (spec1_1.stage (x.2 1)) (hstage1_1 ((x.2 1).cast nbuf1_1)) (spec1_2.stage (x.2 2)) (hstage1_2 ((x.2 2).cast nbuf1_2)) (spec1_3.stage (x.2 3)) (hstage1_3 ((x.2 3).cast nbuf1_3)) (spec1_4.stage (x.2 4)) (hstage1_4 ((x.2 4).cast nbuf1_4)) (spec1_5.stage (x.2 5)) (hstage1_5 ((x.2 5).cast nbuf1_5)) (spec1_6.stage (x.2 6)) (hstage1_6 ((x.2 6).cast nbuf1_6)) (spec1_7.stage (x.2 7)) (hstage1_7 ((x.2 7).cast nbuf1_7)) := rfl
theorem prog_eq1 (t : Fin grid1.N) : (defs₀ (F := F)) .tc (cfg1 a).body ((cfg1 a).bodyArgs t ((cfg1 a).slots t)) =
    body1 (F := F) (grid1.coords t) (Memref.whole main_v0) (Memref.isWhole_whole _) (st1 a 0 t) (hstage1_0 (((cfg1 a).slots t 0).cast nbuf1_0)) (st1 a 1 t) (hstage1_1 (((cfg1 a).slots t 1).cast nbuf1_1)) (st1 a 2 t) (hstage1_2 (((cfg1 a).slots t 2).cast nbuf1_2)) (st1 a 3 t) (hstage1_3 (((cfg1 a).slots t 3).cast nbuf1_3)) (st1 a 4 t) (hstage1_4 (((cfg1 a).slots t 4).cast nbuf1_4)) (st1 a 5 t) (hstage1_5 (((cfg1 a).slots t 5).cast nbuf1_5)) (st1 a 6 t) (hstage1_6 (((cfg1 a).slots t 6).cast nbuf1_6)) (st1 a 7 t) (hstage1_7 (((cfg1 a).slots t 7).cast nbuf1_7)) :=
  (congrFun (defs_tc1 a) _).trans rfl

set_option backward.isDefEq.respectTransparency.types false in
set_option maxHeartbeats 2000000 in
/-- The body meets the region's data at every point. -/
theorem body_obligation1 (c : Dev nD) : BodyObligation (dat1 a m c) (defs₀ (F := F)) 𝒱₀ () Set.univ := fun t => by
  rw [bigSep_W1, bigSep_W1]
  dsimp only
  simp only [before1, after1]
  rw [show (dat1 a m c).Φ t.castSucc = Φ1 a m c t.val from rfl, show (dat1 a m c).Φ t.succ = Φ1 a m c (t.val + 1) from rfl]
  unfold Dat.owesAt Pipeline.owesWithin
  rw [show (dat1 a m c).owed t.castSucc = 0 from rfl, show (dat1 a m c).owed t.succ = 0 from rfl]
  unfold owns Φ1
  iintro ⟨⟨HR, HT, HS⟩, ⟨%W, -, HW⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩⟩
  ihave H0 := (pointsTo_rep_entails (c : Thread nD τ) (st1 a 0 t) g0 fullShare) $$ H0
  ihave H1 := (pointsTo_rep_entails (c : Thread nD τ) (st1 a 1 t) g1 fullShare) $$ H1
  ihave H2 := (pointsTo_rep_entails (c : Thread nD τ) (st1 a 2 t) g2 fullShare) $$ H2
  ihave H3 := (pointsTo_rep_entails (c : Thread nD τ) (st1 a 3 t) g3 fullShare) $$ H3
  ihave H4 := (pointsTo_rep_entails (c : Thread nD τ) (st1 a 4 t) g4 fullShare) $$ H4
  ihave H5 := (pointsTo_rep_entails (c : Thread nD τ) (st1 a 5 t) g5 fullShare) $$ H5
  ihave H6 := (pointsTo_rep_entails (c : Thread nD τ) (st1 a 6 t) g6 fullShare) $$ H6
  ihave H7 := (pointsTo_rep_entails (c : Thread nD τ) (st1 a 7 t) g7 fullShare) $$ H7
  rw [h0, h1, h2, h3, h4, h5, h6, h7]
  sl_rw [prog_eq1 a t]
  have S := step1 c (grid1.coords t) (Memref.whole main_v0) (Memref.isWhole_whole _) (st1 a 0 t) (hstage1_0 (((cfg1 a).slots t 0).cast nbuf1_0)) (st1 a 1 t) (hstage1_1 (((cfg1 a).slots t 1).cast nbuf1_1)) (st1 a 2 t) (hstage1_2 (((cfg1 a).slots t 2).cast nbuf1_2)) (st1 a 3 t) (hstage1_3 (((cfg1 a).slots t 3).cast nbuf1_3)) (st1 a 4 t) (hstage1_4 (((cfg1 a).slots t 4).cast nbuf1_4)) (st1 a 5 t) (hstage1_5 (((cfg1 a).slots t 5).cast nbuf1_5)) (st1 a 6 t) (hstage1_6 (((cfg1 a).slots t 6).cast nbuf1_6)) (st1 a 7 t) (hstage1_7 (((cfg1 a).slots t 7).cast nbuf1_7)) (G1 a m c)
    (iblk1 a m c 0 t) (iblk1 a m c 1 t) (iblk1 a m c 2 t) (iblk1 a m c 3 t) (iblk1 a m c 4 t) (iblk1 a m c 5 t) (iblk1 a m c 6 t) (iblk1 a m c 7 t) (hG1 a m c t)
  rw [coord1 t] at S
  iapply (wp_wand_r frame (wpE (defs₀ (F := F)) 𝒱₀ (c : Thread nD τ) none) Set.univ)
  isplitl [H0 H1 H2 H3 H4 H5 H6 H7 HW HR]
  · iapply S
    isplitl [H0 H1 H2 H3 H4 H5 H6 H7]
    · unfold wins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HW]; · iexists W; iexact HW
    iexact HR
  · unfold wins
    iintro %_ ⟨⟨H0, H1, H2, H3, H4, H5, H6, H7⟩, ⟨%W', HW⟩, HR⟩
    isplitl [HR HT HS]
    · isplitl [HR]; · iexact HR
      isplitl [HT]; · iexact HT
      iexact HS
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    iexists _; isplitr; · ipureintro; exact View.read_rep _ _
    iexact H7
end

end Cert.KernelIdeal.Own

end
-- ==== Proof.Ideal.Ends.lean ====
/-
  The ring of copies before its first step and after its last, in terms of whole buffers; and the buffers of a core
  that a pipeline does not move, sorted into its table, its result and the rest.
-/
module

public import proofs.«01_k».proof.Proof.Ideal.Pieces
public import Idealize.ShloMosaic.Lib.Ring.WriteBehind

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ) ℕ

section
variable (c : Dev nD)
  (M : Memref sig .tc .hbm S8192x2048 .f32) (A : Memref sig .tc .vmem S2x2048x512 .f32) (D : DmaSems sig S2x4)
  (G : Buf (Elt F) (M.view.loc (c : Thread nD τ)))

/-- The counting cells of a pipeline's copies. -/
abbrev osemOf (D : DmaSems sig S2x4) : Fin 2 × Fin 4 → SemLoc sig := fun p => .dma (csm D p.1 p.2).sem

omit [FloatOps F] in
/-- They are eight, slot by slot. -/
theorem cells_eq : (ownSems0 (Val := Elt F) (τ := τ) (osemOf D) c : sProp 𝕄)
    = iprop(cellP c D 0 0 ∗ cellP c D 0 1 ∗ cellP c D 0 2 ∗ cellP c D 0 3 ∗ cellP c D 1 0 ∗ cellP c D 1 1 ∗ cellP c D 1 2 ∗ cellP c D 1 3) :=
  ownSems0_eq_of_list c (osemOf D) [(0, 0), (0, 1), (0, 2), (0, 3), (1, 0), (1, 1), (1, 2), (1, 3)] (by decide) (by decide)

/-- Before the first step: the result at any contents, the accumulator and the cells at zero. -/
theorem ring_start (f : Buf (Elt F) (M.view.loc (c : Thread nD τ))) :
    (iprop(inP c M f ∗ (∃ f, inP c A f) ∗ ownSems0 (Val := Elt F) (τ := τ) (osemOf D) c) : sProp 𝕄)
      ⊢ Ring.AtBΦ 2 (freeR c A D) (inflR c M A D G) (aheadR c M) (behindR c M G) 0 := by
  rw [Ring.AtBΦ_lt _ _ _ _ _ _ (by decide), Ring.AtB_zero, Ring.AtB₀, bigSep_two, cells_eq]
  iintro ⟨HM, HA, H0, H1, H2, H3, H4, H5, H6, H7⟩
  ihave HM := (ahead_all c M f) $$ HM
  ihave HA := (slots_split c A) $$ HA
  icases HA with ⟨HA, HB⟩
  isplitl [HM]; · iexact HM
  unfold freeR
  isplitl [HA H0 H1 H2 H3]
  · isplitl [HA]; · iexact HA
    iframe
  isplitl [HB]; · iexact HB
  iframe

/-- After the last step: the result as written, the accumulator and the cells at zero. -/
theorem ring_finish :
    Ring.AtBΦ 2 (freeR c A D) (inflR c M A D G) (aheadR c M) (behindR c M G) 4
      ⊢ (iprop(inP c M G ∗ (∃ f, inP c A f) ∗ ownSems0 (Val := Elt F) (τ := τ) (osemOf D) c) : sProp 𝕄) := by
  rw [Ring.AtBΦ_end _ _ _ _ _ _ rfl, Ring.AtBEnd, bigSep_two, cells_eq, behind_all]
  unfold freeR
  iintro ⟨HM, ⟨HA, H0, H1, H2, H3⟩, ⟨HB, H4, H5, H6, H7⟩⟩
  isplitl [HM]; · iexact HM
  isplitl [HA HB]
  · iapply (slots_join c A)
    isplitl [HA]; · iexact HA
    iexact HB
  iframe
end

/-! ## The buffers no window moves -/

section
variable {gr W : Nat} (pre : Prefetch sig) (win : Fin W → WinSpec sig gr) (b : Ref sig .tc) (c : Dev nD)

/-- The unscoped buffers that are neither a window's array, nor a table, nor `b`. -/
def restB (V : (b : Ref sig .tc) → Buf (Elt F) ((c : Thread nD τ).loc b)) : sProp 𝕄 :=
  bigSep ((((Finset.univ.filter fun b : Ref sig .tc => ¬ b.isScoped) \ Finset.univ.image (arrRef win)) \ Finset.univ.image pre.ref).erase b)
    fun b => ((c : Thread nD τ).loc b) ↦{fullShare} V b

omit [FloatOps F] in
/-- The unscoped buffers that are no window's array are the table, the buffer `b` and the rest. -/
theorem rest_split (hp : PreFacts win pre) (hs : b.isScoped = false) (ha : ∀ w, arrRef win w ≠ b) (hr : ∀ k, pre.ref k ≠ b)
    (V : (b : Ref sig .tc) → Buf (Elt F) ((c : Thread nD τ).loc b)) :
    (unscopedRest win c V : sProp 𝕄) = iprop(prefHeld pre c (fun _ => fullShare) (fun k => V (pre.ref k))
      ∗ (((c : Thread nD τ).loc b) ↦{fullShare} V b) ∗ restB pre win b c V) := by
  rw [unscopedRest_split hp c V]
  unfold unscopedRestP restB
  rw [bigSep_erase (i := b) (by
    simp only [Finset.mem_sdiff, Finset.mem_filter, Finset.mem_univ, true_and, Finset.mem_image, not_exists]
    exact ⟨⟨by simp [hs], ha⟩, hr⟩)]
  rfl

omit [FloatOps F] in
/-- The rest does not see the contents of `b`. -/
theorem restB_congr (V V' : (b : Ref sig .tc) → Buf (Elt F) ((c : Thread nD τ).loc b)) (h : ∀ d, d ≠ b → V' d = V d) :
    (restB pre win b c V : sProp 𝕄) = restB pre win b c V' := by
  unfold restB
  exact bigSep_congr fun d hd => by rw [h d (Finset.ne_of_mem_erase hd)]
end

end Cert.KernelIdeal.Own

end
-- ==== Proof.Ideal.Segs.lean ====
/-
  The two pipelines as regions of the program: each is entered with the unscoped buffers of the core at a valuation
  and left with them at that valuation but for the pipeline's result, which holds what the pipeline computed.
-/
module

public import proofs.«01_k».proof.Proof.Ideal.Region0
public import proofs.«01_k».proof.Proof.Ideal.Region1
public import proofs.«01_k».proof.Proof.Ideal.Ends
public import Idealize.ShloMosaic.Lib.Pipeline.Frame

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.StableHlo (held)

variable {F : FTy → Type} [FloatOps F]
local notation "𝕄" => MT nD τ sig Unit (Elt F) ℕ (UU nD τ) ℕ

abbrev L : GSem nD τ sig → Finset Unit := fun _ => ∅
abbrev lv : GSem nD τ sig → Unit → ℕ := fun _ _ => 0

variable (V : Dev nD → Valuation τ sig (Elt F))

/-- The memory that the valuations of the cores are. -/
def memOf : (ℓ : Loc nD τ sig) → Buf (Elt F) ℓ := fun ℓ => V ℓ.1 ℓ.2
/-- The tables' contents, read off the valuation of the one core. -/
def adm : (p : Fin 2) → (pcfgs (F := F) p).Adm
  | 0 => ⟨fun k => V 0 (pre0.ref k), trivial⟩
  | 1 => ⟨fun k => V 0 (pre1.ref k), trivial⟩
  | ⟨_ + 2, h⟩ => absurd h (Nat.not_lt.2 (Nat.le_add_left _ _))
/-- The two regions' data. -/
def pdats : (p : Fin 2) → (c : Dev nD) → Dat τ (Elt F) Unit ℕ (UU nD τ) ℕ (pin (pcfgs (F := F)) (adm V) p) c
  | 0 => dat0 (adm V 0) (memOf V)
  | 1 => dat1 (adm V 1) (memOf V)
  | ⟨_ + 2, h⟩ => absurd h (Nat.not_lt.2 (Nat.le_add_left _ _))

/-- The core's unscoped buffers at a valuation, the core owing nothing. -/
abbrev heldAt (W : Dev nD → Valuation τ sig (Elt F)) (c : Dev nD) : sProp 𝕄 :=
  iprop(held (c : Thread nD τ) (ucRefs τ sig) (W c) ∗ ∃ O, owes (c : Thread nD τ) (0 : CellTallies nD τ sig Unit) O)

/-! ## The second pipeline -/

/-- The valuation after the second pipeline. -/
def V1 (c : Dev nD) : Valuation τ sig (Elt F) :=
  Function.update (V c) (Proc.devRef .tc main_case0b1_v5 : DevRef τ sig) (G1 (adm V 1) (memOf V) c)

theorem V1_out (c : Dev nD) : V1 V c (Proc.devRef .tc main_case0b1_v5 : DevRef τ sig) = G1 (adm V 1) (memOf V) c := Function.update_self ..
theorem V1_off (c : Dev nD) (b : Ref sig .tc) (h : b ≠ main_case0b1_v5) : V1 V c (Proc.devRef .tc b : DevRef τ sig) = V c (Proc.devRef .tc b : DevRef τ sig) :=
  Function.update_of_ne (fun e => h (Proc.devRef_injective .tc e)) _ _

theorem arrs1 : ∀ w : Fin 8, arrRef spec1 w ≠ main_case0b1_v5 := by decide
theorem tbl1 : ∀ k, pre1.ref k ≠ main_case0b1_v5 := by decide

theorem own1 : OwnSemFacts spec1 (osemOf cc1_scratch1) := by decide

/-- The scoped buffers no window of the second pipeline stages: its accumulator and the rest. -/
theorem scoped1 (c : Dev nD) : (scopedRest (Val := Elt F) spec1 c : sProp 𝕄)
    = iprop((∃ f, inP c accM1 f) ∗ scopedRestBut (Val := Elt F) spec1 c [cc1_scratch0]) := by
  rw [scopedRest_split_of_list spec1 c [cc1_scratch0] (by decide) (by decide)]
  unfold inP
  rw [show accM1.view.set = Finset.univ from View.set_whole _]
  rfl

/-- Entering: the buffers at the valuation are the windows' arrays, the table, the result and the rest. -/
theorem enter1 (c : Dev nD) : (held (c : Thread nD τ) (ucRefs τ sig) (V c) : sProp 𝕄)
    ⊢ iprop((pdats V 1 c).arrays ((pdats V 1 c).arrAt · 0) ∗ prefHeld pre1 c (fun _ => fullShare) (adm V 1).1
        ∗ (inP c outM1 (V c (Proc.devRef .tc main_case0b1_v5))) ∗ restB pre1 spec1 main_case0b1_v5 c (fun b => V c b)) := by
  obtain rfl := Subsingleton.elim c 0
  rw [← unscopedBufs_held]
  refine (arrays_of_unscopedBufs (pcfgs (F := F)) (adm V) (pdats V) (p := 1) (winFacts1) (arr_whole1) 0
    ((pdats V 1 0).share_full fun _ => rfl) (fun b => V 0 b) (fun w => rfl)).trans ?_
  refine BIClass.sep_mono .rfl ?_
  refine (Entails.of_eq (rest_split pre1 spec1 main_case0b1_v5 0 preFacts1 (by decide) arrs1 tbl1 (fun b => V 0 b))).trans ?_
  refine BIClass.sep_mono .rfl (BIClass.sep_mono (Entails.of_eq ?_) .rfl)
  unfold inP
  rw [show outM1.view.set = Finset.univ from View.set_whole _]

/-- Leaving: the same buffers with the result written are the buffers at the valuation after the pipeline. -/
theorem leave1 (c : Dev nD) :
    (iprop((pdats V 1 c).arrays ((pdats V 1 c).arrAt · (cfg1 (adm V 1)).N) ∗ prefHeld pre1 c (fun _ => fullShare) (adm V 1).1
        ∗ (inP c outM1 (G1 (adm V 1) (memOf V) c)) ∗ restB pre1 spec1 main_case0b1_v5 c (fun b => V c b)) : sProp 𝕄)
      ⊢ held (c : Thread nD τ) (ucRefs τ sig) (V1 V c) := by
  obtain rfl := Subsingleton.elim c 0
  rw [← unscopedBufs_held, unscopedBufs_split (pin (pcfgs (F := F)) (adm V)) (1 : Fin 2) winFacts1.arr_unscoped winFacts1.arr_inj 0 (fun b => V1 V 0 b),
    arrays_eq (pin (pcfgs (F := F)) (adm V)) (pdats V) 1 0 arr_whole1 ((pdats V 1 0).share_full fun _ => rfl)]
  have h1 : ∀ w : Fin 8, ((0 : Dev nD).tc.loc (arrRef spec1 w) ↦{fullShare} ((pdats V 1 0).arrAt w (cfg1 (adm V 1)).N) : sProp 𝕄)
      = ((0 : Dev nD).tc.loc (arrRef spec1 w) ↦{fullShare} V1 V 0 (Proc.devRef .tc (arrRef spec1 w))) := fun w => by
    have e1 : (pdats V 1 0).arrAt w (cfg1 (adm V 1)).N = V 0 (Proc.devRef .tc (arrRef spec1 w)) := (pdats V 1 0).arrAt_in w (by fin_cases w <;> rfl) _
    rw [e1, V1_off V 0 _ (arrs1 w)]
  have h2 : (prefHeld pre1 (0 : Dev nD) (fun _ => fullShare) (adm V 1).1 : sProp 𝕄) = prefHeld pre1 0 (fun _ => fullShare) (fun k => V1 V 0 (Proc.devRef .tc (pre1.ref k))) := by
    unfold prefHeld
    exact bigSep_congr fun k _ => congrArg (fun f => ((0 : Dev nD).tc.loc (pre1.ref k) ↦{fullShare} f : sProp 𝕄)) (V1_off V 0 _ (tbl1 k)).symm
  have h3 : (inP (0 : Dev nD) outM1 (G1 (adm V 1) (memOf V) 0) : sProp 𝕄) = ((0 : Dev nD).tc.loc main_case0b1_v5 ↦{fullShare} V1 V 0 (Proc.devRef .tc main_case0b1_v5)) := by
    rw [V1_out]; unfold inP
    rw [show outM1.view.set = Finset.univ from View.set_whole _]
  have h4 := restB_congr pre1 spec1 main_case0b1_v5 (0 : Dev nD) (fun b => V 0 b) (fun b => V1 V 0 b) fun d h => V1_off V 0 d h
  have h5 := rest_split pre1 spec1 main_case0b1_v5 0 preFacts1 (by decide) arrs1 tbl1 (fun b => V1 V 0 b)
  rw [← h2, ← h3, ← h4] at h5
  have h6 : (bigSep Finset.univ fun w : Fin 8 => ((0 : Dev nD).tc.loc (arrRef spec1 w) ↦{fullShare} ((pdats V 1 0).arrAt w (cfg1 (adm V 1)).N) : sProp 𝕄)) = _ := bigSep_congr fun w _ => h1 w
  exact Entails.of_eq (congrArg₂ (fun P Q : sProp 𝕄 => iprop(P ∗ Q)) h6 h5.symm)

/-- The second pipeline as a region. -/
def seg1 : RegionSeg (pcfgs (F := F)) (adm V) (pdats V) () (defs₀ (F := F)) 𝒱₀ L lv 1 where
  win := winFacts1.to₀
  block_pos := block_pos1
  stage_whole := stage_whole1
  K := Fin 2 × Fin 4
  osem := osemOf cc1_scratch1
  ho := own1
  hbody c := (body_obligation1 (adm V 1) (memOf V) c).loose
  hwaits c := hwaits_of_owed_zero (pcfgs (F := F)) (adm V) (pdats V) () L lv 1 (fun _ _ => rfl) c
  pre := heldAt V
  post := heldAt (V1 V)
  X c := iprop(inP c outM1 (V c (Proc.devRef .tc main_case0b1_v5)) ∗ ownSems0 (Val := Elt F) (τ := τ) (osemOf cc1_scratch1) c)
  Y c := iprop(prefHeld pre1 c (fun _ => fullShare) (adm V 1).1 ∗ inP c outM1 (G1 (adm V 1) (memOf V) c))
  Z c := restB pre1 spec1 main_case0b1_v5 c (fun b => V c b)
  hentry c := by
    iintro ⟨⟨Hh, ⟨%O, HO⟩⟩, Hs, -⟩
    ihave H := (enter1 V c) $$ Hh
    icases H with ⟨Ha, Ht, Ho, Hr⟩
    imodintro
    isplitl [Ha]; · iexact Ha
    isplitl [Ht]; · iexact Ht
    isplitl [HO]
    · unfold Dat.owesAt Pipeline.owesWithin
      iexists O; isplitr; · ipureintro; exact fun _ _ => Or.inl trivial
      iexact HO
    isplitl [Ho Hs]
    · isplitl [Ho]; · iexact Ho
      iexact Hs
    iexact Hr
  hin c := by
    rw [show (pdats V 1 c).Φ 0 = Φ1 (adm V 1) (memOf V) c 0 from rfl]
    unfold Φ1 ring1
    iintro ⟨⟨Ho, Hs⟩, Ht, Hc⟩
    ihave Hc := (Entails.of_eq (scoped1 c)) $$ Hc
    icases Hc with ⟨HA, Hc⟩
    isplitl [Ho Hs HA]
    · iapply (ring_start c outM1 accM1 cc1_scratch1 _ _)
      isplitl [Ho]; · iexact Ho
      isplitl [HA]; · iexact HA
      iexact Hs
    isplitl [Ht]; · iexact Ht
    iintro HA
    iapply (Entails.of_eq (scoped1 c).symm)
    isplitl [HA]; · iexact HA
    iexact Hc
  hout c := by
    rw [show (pdats V 1 c).Φ (Fin.last _) = Φ1 (adm V 1) (memOf V) c 4 from congrArg (Φ1 (adm V 1) (memOf V) c) N_1]
    unfold Φ1 ring1
    iintro ⟨HR, Ht, Hc⟩
    ihave HR := (ring_finish c outM1 accM1 cc1_scratch1 _) $$ HR
    icases HR with ⟨Ho, HA, Hs⟩
    isplitl [Ho Ht]
    · isplitl [Ht]; · iexact Ht
      iexact Ho
    isplitl [Hs]; · iexact Hs
    iapply Hc; iexact HA
  hexit c := by
    unfold Dat.owesAt Pipeline.owesWithin
    iintro ⟨Ha, ⟨%O, -, HO⟩, ⟨Ht, Ho⟩, Hr⟩
    imodintro
    isplitl [Ha Ht Ho Hr]
    · iapply (leave1 V c)
      isplitl [Ha]; · iexact Ha
      isplitl [Ht]; · iexact Ht
      isplitl [Ho]; · iexact Ho
      iexact Hr
    iexists O; iexact HO

/-! ## The first pipeline -/

/-- The valuation after the first pipeline. -/
def V0 (c : Dev nD) : Valuation τ sig (Elt F) :=
  Function.update (V c) (Proc.devRef .tc main_case0b0_v5 : DevRef τ sig) (G0 (adm V 0) (memOf V) c)

theorem V0_out (c : Dev nD) : V0 V c (Proc.devRef .tc main_case0b0_v5 : DevRef τ sig) = G0 (adm V 0) (memOf V) c := Function.update_self ..
theorem V0_off (c : Dev nD) (b : Ref sig .tc) (h : b ≠ main_case0b0_v5) : V0 V c (Proc.devRef .tc b : DevRef τ sig) = V c (Proc.devRef .tc b : DevRef τ sig) :=
  Function.update_of_ne (fun e => h (Proc.devRef_injective .tc e)) _ _

theorem arrs0 : ∀ w : Fin 8, arrRef spec0 w ≠ main_case0b0_v5 := by decide
theorem tbl0 : ∀ k, pre0.ref k ≠ main_case0b0_v5 := by decide

theorem own0 : OwnSemFacts spec0 (osemOf cc0_scratch1) := by decide

/-- The scoped buffers no window of the first pipeline stages: its accumulator and the rest. -/
theorem scoped0 (c : Dev nD) : (scopedRest (Val := Elt F) spec0 c : sProp 𝕄)
    = iprop((∃ f, inP c accM0 f) ∗ scopedRestBut (Val := Elt F) spec0 c [cc0_scratch0]) := by
  rw [scopedRest_split_of_list spec0 c [cc0_scratch0] (by decide) (by decide)]
  unfold inP
  rw [show accM0.view.set = Finset.univ from View.set_whole _]
  rfl

/-- Entering: the buffers at the valuation are the windows' arrays, the table, the result and the rest. -/
theorem enter0 (c : Dev nD) : (held (c : Thread nD τ) (ucRefs τ sig) (V c) : sProp 𝕄)
    ⊢ iprop((pdats V 0 c).arrays ((pdats V 0 c).arrAt · 0) ∗ prefHeld pre0 c (fun _ => fullShare) (adm V 0).1
        ∗ (inP c outM0 (V c (Proc.devRef .tc main_case0b0_v5))) ∗ restB pre0 spec0 main_case0b0_v5 c (fun b => V c b)) := by
  obtain rfl := Subsingleton.elim c 0
  rw [← unscopedBufs_held]
  refine (arrays_of_unscopedBufs (pcfgs (F := F)) (adm V) (pdats V) (p := 0) (winFacts0) (arr_whole0) 0
    ((pdats V 0 0).share_full fun _ => rfl) (fun b => V 0 b) (fun w => rfl)).trans ?_
  refine BIClass.sep_mono .rfl ?_
  refine (Entails.of_eq (rest_split pre0 spec0 main_case0b0_v5 0 preFacts0 (by decide) arrs0 tbl0 (fun b => V 0 b))).trans ?_
  refine BIClass.sep_mono .rfl (BIClass.sep_mono (Entails.of_eq ?_) .rfl)
  unfold inP
  rw [show outM0.view.set = Finset.univ from View.set_whole _]

/-- Leaving: the same buffers with the result written are the buffers at the valuation after the pipeline. -/
theorem leave0 (c : Dev nD) :
    (iprop((pdats V 0 c).arrays ((pdats V 0 c).arrAt · (cfg0 (adm V 0)).N) ∗ prefHeld pre0 c (fun _ => fullShare) (adm V 0).1
        ∗ (inP c outM0 (G0 (adm V 0) (memOf V) c)) ∗ restB pre0 spec0 main_case0b0_v5 c (fun b => V c b)) : sProp 𝕄)
      ⊢ held (c : Thread nD τ) (ucRefs τ sig) (V0 V c) := by
  obtain rfl := Subsingleton.elim c 0
  rw [← unscopedBufs_held, unscopedBufs_split (pin (pcfgs (F := F)) (adm V)) (0 : Fin 2) winFacts0.arr_unscoped winFacts0.arr_inj 0 (fun b => V0 V 0 b),
    arrays_eq (pin (pcfgs (F := F)) (adm V)) (pdats V) 0 0 arr_whole0 ((pdats V 0 0).share_full fun _ => rfl)]
  have h1 : ∀ w : Fin 8, ((0 : Dev nD).tc.loc (arrRef spec0 w) ↦{fullShare} ((pdats V 0 0).arrAt w (cfg0 (adm V 0)).N) : sProp 𝕄)
      = ((0 : Dev nD).tc.loc (arrRef spec0 w) ↦{fullShare} V0 V 0 (Proc.devRef .tc (arrRef spec0 w))) := fun w => by
    have e1 : (pdats V 0 0).arrAt w (cfg0 (adm V 0)).N = V 0 (Proc.devRef .tc (arrRef spec0 w)) := (pdats V 0 0).arrAt_in w (by fin_cases w <;> rfl) _
    rw [e1, V0_off V 0 _ (arrs0 w)]
  have h2 : (prefHeld pre0 (0 : Dev nD) (fun _ => fullShare) (adm V 0).1 : sProp 𝕄) = prefHeld pre0 0 (fun _ => fullShare) (fun k => V0 V 0 (Proc.devRef .tc (pre0.ref k))) := by
    unfold prefHeld
    exact bigSep_congr fun k _ => congrArg (fun f => ((0 : Dev nD).tc.loc (pre0.ref k) ↦{fullShare} f : sProp 𝕄)) (V0_off V 0 _ (tbl0 k)).symm
  have h3 : (inP (0 : Dev nD) outM0 (G0 (adm V 0) (memOf V) 0) : sProp 𝕄) = ((0 : Dev nD).tc.loc main_case0b0_v5 ↦{fullShare} V0 V 0 (Proc.devRef .tc main_case0b0_v5)) := by
    rw [V0_out]; unfold inP
    rw [show outM0.view.set = Finset.univ from View.set_whole _]
  have h4 := restB_congr pre0 spec0 main_case0b0_v5 (0 : Dev nD) (fun b => V 0 b) (fun b => V0 V 0 b) fun d h => V0_off V 0 d h
  have h5 := rest_split pre0 spec0 main_case0b0_v5 0 preFacts0 (by decide) arrs0 tbl0 (fun b => V0 V 0 b)
  rw [← h2, ← h3, ← h4] at h5
  have h6 : (bigSep Finset.univ fun w : Fin 8 => ((0 : Dev nD).tc.loc (arrRef spec0 w) ↦{fullShare} ((pdats V 0 0).arrAt w (cfg0 (adm V 0)).N) : sProp 𝕄)) = _ := bigSep_congr fun w _ => h1 w
  exact Entails.of_eq (congrArg₂ (fun P Q : sProp 𝕄 => iprop(P ∗ Q)) h6 h5.symm)

/-- The first pipeline as a region. -/
def seg0 : RegionSeg (pcfgs (F := F)) (adm V) (pdats V) () (defs₀ (F := F)) 𝒱₀ L lv 0 where
  win := winFacts0.to₀
  block_pos := block_pos0
  stage_whole := stage_whole0
  K := Fin 2 × Fin 4
  osem := osemOf cc0_scratch1
  ho := own0
  hbody c := (body_obligation0 (adm V 0) (memOf V) c).loose
  hwaits c := hwaits_of_owed_zero (pcfgs (F := F)) (adm V) (pdats V) () L lv 0 (fun _ _ => rfl) c
  pre := heldAt V
  post := heldAt (V0 V)
  X c := iprop(inP c outM0 (V c (Proc.devRef .tc main_case0b0_v5)) ∗ ownSems0 (Val := Elt F) (τ := τ) (osemOf cc0_scratch1) c)
  Y c := iprop(prefHeld pre0 c (fun _ => fullShare) (adm V 0).1 ∗ inP c outM0 (G0 (adm V 0) (memOf V) c))
  Z c := restB pre0 spec0 main_case0b0_v5 c (fun b => V c b)
  hentry c := by
    iintro ⟨⟨Hh, ⟨%O, HO⟩⟩, Hs, -⟩
    ihave H := (enter0 V c) $$ Hh
    icases H with ⟨Ha, Ht, Ho, Hr⟩
    imodintro
    isplitl [Ha]; · iexact Ha
    isplitl [Ht]; · iexact Ht
    isplitl [HO]
    · unfold Dat.owesAt Pipeline.owesWithin
      iexists O; isplitr; · ipureintro; exact fun _ _ => Or.inl trivial
      iexact HO
    isplitl [Ho Hs]
    · isplitl [Ho]; · iexact Ho
      iexact Hs
    iexact Hr
  hin c := by
    rw [show (pdats V 0 c).Φ 0 = Φ0 (adm V 0) (memOf V) c 0 from rfl]
    unfold Φ0 ring0
    iintro ⟨⟨Ho, Hs⟩, Ht, Hc⟩
    ihave Hc := (Entails.of_eq (scoped0 c)) $$ Hc
    icases Hc with ⟨HA, Hc⟩
    isplitl [Ho Hs HA]
    · iapply (ring_start c outM0 accM0 cc0_scratch1 _ _)
      isplitl [Ho]; · iexact Ho
      isplitl [HA]; · iexact HA
      iexact Hs
    isplitl [Ht]; · iexact Ht
    iintro HA
    iapply (Entails.of_eq (scoped0 c).symm)
    isplitl [HA]; · iexact HA
    iexact Hc
  hout c := by
    rw [show (pdats V 0 c).Φ (Fin.last _) = Φ0 (adm V 0) (memOf V) c 4 from congrArg (Φ0 (adm V 0) (memOf V) c) N_0]
    unfold Φ0 ring0
    iintro ⟨HR, Ht, Hc⟩
    ihave HR := (ring_finish c outM0 accM0 cc0_scratch1 _) $$ HR
    icases HR with ⟨Ho, HA, Hs⟩
    isplitl [Ho Ht]
    · isplitl [Ht]; · iexact Ht
      iexact Ho
    isplitl [Hs]; · iexact Hs
    iapply Hc; iexact HA
  hexit c := by
    unfold Dat.owesAt Pipeline.owesWithin
    iintro ⟨Ha, ⟨%O, -, HO⟩, ⟨Ht, Ho⟩, Hr⟩
    imodintro
    isplitl [Ha Ht Ho Hr]
    · iapply (leave0 V c)
      isplitl [Ha]; · iexact Ha
      isplitl [Ht]; · iexact Ht
      isplitl [Ho]; · iexact Ho
      iexact Hr
    iexists O; iexact HO

end Cert.KernelIdeal.Own

end
-- ==== Proof.Ideal.Launch.lean ====
/-
  The whole program run: the host's operations, the read of the branch word, the pipeline it names, and the copy of
  that pipeline's result to the program's result. What the memory then holds is `finalV`.
-/
module

public import proofs.«01_k».proof.Proof.Ideal.Segs
public import Idealize.ShloMosaic.Lib.HostLoop.Rules

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.StableHlo (held after)

variable {F : FTy → Type} [FloatOps F]
local notation "𝕄" => MT nD τ sig Unit (Elt F) ℕ (UU nD τ) ℕ

/-! ## The operations and their fold -/

/-- The read of the branch word: the predicate widened. -/
abbrev rdOp : HloOp τ sig (Elt F) :=
  StableHlo.unary main_v2 main_v3 ((extui 32 · natLt_1_32) : (⟨S_, .i1⟩ : BufTy).Contents (Elt F) → (⟨S_, .i32⟩ : BufTy).Contents (Elt F))
/-- The copies of the two pipelines' results to the program's. -/
abbrev cpOp0 : HloOp τ sig (Elt F) := StableHlo.unary main_case0b0_v5 main_v4 id
abbrev cpOp1 : HloOp τ sig (Elt F) := StableHlo.unary main_case0b1_v5 main_v4 id
/-- The host's operations before the read, in their three groups. -/
abbrev opss : List (List (HloOp τ sig (Elt F))) := [hostOps0, hostOps0_1, hostOps0_2]

/-- The word read off a valuation: its predicate widened. -/
def wordOf (W : Valuation τ sig (Elt F)) : BitVec 32 :=
  (extui 32 (W main_v2 : (⟨S_, .i1⟩ : BufTy).Contents (Elt F)) natLt_1_32 : (⟨S_, .i32⟩ : BufTy).Contents (Elt F)) HostLoop.idx0

section Fold
variable (m : (ℓ : Loc nD τ sig) → Buf (Elt F) ℓ)

/-- Every buffer's contents at launch, after the host's operations, and after the read. -/
def launchV (c : Dev nD) : Valuation τ sig (Elt F) := fun b => m (c, b)
def hostV (c : Dev nD) : Valuation τ sig (Elt F) := after (opss (F := F)).flatten (launchV m c)
def readV (c : Dev nD) : Valuation τ sig (Elt F) := (rdOp (F := F)).result (hostV m c)
/-- The branch word. -/
def word (c : Dev nD) : BitVec 32 := wordOf (hostV m c)
/-- The contents after each arm. -/
def arm0V (c : Dev nD) : Valuation τ sig (Elt F) := (cpOp0 (F := F)).result (V0 (readV m) c)
def arm1V (c : Dev nD) : Valuation τ sig (Elt F) := (cpOp1 (F := F)).result (V1 (readV m) c)
/-- The contents at the end. -/
def finalV (c : Dev nD) : Valuation τ sig (Elt F) := if HostLoop.branch (word m c) 1 = 0 then arm0V m c else arm1V m c

end Fold

/-! ## Where the ghost state lies -/

/-- The second copy of the pipelines' ghost state. -/
abbrev EP2 : Emb (UR sig nD τ) 𝕄 := (Emb.inl : Emb (UR sig nD τ) (UR sig nD τ × Counters)).trans embR

instance : (EP2 (F := F)).LandsIn (upEmb : UEmb _ 𝕄) := by unfold EP2; infer_instance

variable (m : (ℓ : Loc nD τ sig) → Buf (Elt F) ℓ)

/-- The two pipelines' ghost state on a core. -/
def ghostG (c : Dev nD) : sProp 𝕄 :=
  iprop((bigSep Finset.univ fun p : Fin 2 => cellsGhost (pin (pcfgs (F := F)) (adm (readV m))) EP2 p c)
    ∗ bigSep Finset.univ fun p : Fin 2 => toksInit (pin (pcfgs (F := F)) (adm (readV m))) EP2 p c)

/-! ## The arms -/

abbrev MainProg (F : FTy → Type) [FloatOps F] := Prog (TpuEff nD τ sig (Elt F) (Pipeline.Sig Λ₀ (Fin 2) fun p => (pcfgs (F := F) p).Adm) .tc) PUnit

/-- The arms as printed. -/
abbrev arm0 : MainProg F := do
  Prog.lift (.customCall (Pipeline.entry 0) ())
  hlo rfl (StableHlo.unary main_case0b0_v5 main_v4 id) (fun _ => .ret ⟨⟩)
  pure ⟨⟩
abbrev arm1 : MainProg F := do
  Prog.lift (.customCall (Pipeline.entry 1) ())
  hlo rfl (StableHlo.unary main_case0b1_v5 main_v4 id) (fun _ => .ret ⟨⟩)
  pure ⟨⟩
/-- The two arms, and the last item of the program, as printed. -/
abbrev arms : Fin 2 → MainProg F
  | 0 => arm0
  | 1 => arm1
  | ⟨_ + 2, h⟩ => absurd h (Nat.not_lt.2 (Nat.le_add_left _ _))
abbrev caseProg : MainProg F := do
  let x_v3 ← hlo rfl (StableHlo.unary main_v2 main_v3 ((extui 32 · natLt_1_32) : (⟨S_, .i1⟩ : BufTy).Contents (Elt F) → (⟨S_, .i32⟩ : BufTy).Contents (Elt F))) (HostLoop.elt main_v3)
  HostLoop.case 2 x_v3 arms

/-- What follows the pipeline's call in the arm. -/
abbrev rest0 : PUnit → MainProg F := fun _ => (hlo rfl (StableHlo.unary main_case0b0_v5 main_v4 id) (fun _ => .ret ⟨⟩) : MainProg F) >>= fun _ => pure ⟨⟩
theorem arm0_eq : (arm0 : MainProg F) = .op (.customCall (Pipeline.entry 0) ()) rest0 := rfl

/-- The first pipeline entered from the buffers after the read, under any continuation. -/
theorem enter_arm0 (c : Dev nD) (k : PUnit → MainProg F) (Q : PUnit → sProp 𝕄) :
    iprop((iprop(boundary (c : Thread nD τ) ∗ heldAt (V0 (readV m)) c)
          -∗ wp frame (wpE (Pipeline.defs (pcfgs (F := F)) defs₀) (Variants.lift 𝒱₀) (c : Thread nD τ) none) Set.univ (k ⟨⟩) Q)
      ∗ boundary (c : Thread nD τ) ∗ heldAt (readV m) c ∗ levAts L lv
      ∗ cellsGhost (pin (pcfgs (F := F)) (adm (readV m))) EP2 0 c ∗ toksInit (pin (pcfgs (F := F)) (adm (readV m))) EP2 0 c)
    ⊢ (wp frame (wpE (Pipeline.defs (pcfgs (F := F)) defs₀) (Variants.lift 𝒱₀) (c : Thread nD τ) none) Set.univ (.op (.customCall (Pipeline.entry 0) ()) k) Q : sProp 𝕄) :=
  RegionSeg.wp (pcfgs (F := F)) (adm (readV m)) (pdats (readV m)) () (cellOf_inj _) EP2 defs₀ 𝒱₀ L lv (seg0 (readV m)) c none (by intro u h; cases h) k Q

/-- What follows the pipeline's call in the arm. -/
abbrev rest1 : PUnit → MainProg F := fun _ => (hlo rfl (StableHlo.unary main_case0b1_v5 main_v4 id) (fun _ => .ret ⟨⟩) : MainProg F) >>= fun _ => pure ⟨⟩
theorem arm1_eq : (arm1 : MainProg F) = .op (.customCall (Pipeline.entry 1) ()) rest1 := rfl

/-- The second pipeline entered from the buffers after the read, under any continuation. -/
theorem enter_arm1 (c : Dev nD) (k : PUnit → MainProg F) (Q : PUnit → sProp 𝕄) :
    iprop((iprop(boundary (c : Thread nD τ) ∗ heldAt (V1 (readV m)) c)
          -∗ wp frame (wpE (Pipeline.defs (pcfgs (F := F)) defs₀) (Variants.lift 𝒱₀) (c : Thread nD τ) none) Set.univ (k ⟨⟩) Q)
      ∗ boundary (c : Thread nD τ) ∗ heldAt (readV m) c ∗ levAts L lv
      ∗ cellsGhost (pin (pcfgs (F := F)) (adm (readV m))) EP2 1 c ∗ toksInit (pin (pcfgs (F := F)) (adm (readV m))) EP2 1 c)
    ⊢ (wp frame (wpE (Pipeline.defs (pcfgs (F := F)) defs₀) (Variants.lift 𝒱₀) (c : Thread nD τ) none) Set.univ (.op (.customCall (Pipeline.entry 1) ()) k) Q : sProp 𝕄) :=
  RegionSeg.wp (pcfgs (F := F)) (adm (readV m)) (pdats (readV m)) () (cellOf_inj _) EP2 defs₀ 𝒱₀ L lv (seg1 (readV m)) c none (by intro u h; cases h) k Q

set_option backward.isDefEq.respectTransparency.types false in
/-- The first arm: from the buffers after the read to the buffers after the arm. -/
theorem arm0_spec (c : Dev nD) :
    iprop(boundary (c : Thread nD τ) ∗ heldAt (readV m) c ∗ levAts L lv
      ∗ cellsGhost (pin (pcfgs (F := F)) (adm (readV m))) EP2 0 c ∗ toksInit (pin (pcfgs (F := F)) (adm (readV m))) EP2 0 c)
    ⊢ (wp frame (wpE (Pipeline.defs (pcfgs (F := F)) defs₀) (Variants.lift 𝒱₀) (c : Thread nD τ) none) Set.univ arm0
        (fun _ => iprop(boundary (c : Thread nD τ) ∗ heldAt (arm0V m) c)) : sProp 𝕄) := by
  rw [arm0_eq]
  refine BIBase.Entails.trans ?_ (enter_arm0 m c (rest0 (F := F)) _)
  iintro ⟨Hb, Hh, Hl, Hc, Ht⟩
  isplitr [Hb Hh Hl Hc Ht]
  · iintro ⟨Hb, Hh, HO⟩
    rw [wp_bind]
    iapply (StableHlo.wp_hlo_within (Variants.lift 𝒱₀) (c : Thread nD τ) none Set.univ (sub_ucRefs _ (StableHlo.unary_bufs_sub ..))) $$ [Hb Hh]
    · isplitl [Hb]; · iexact Hb
      iexact Hh
    iintro ⟨Hb, Hh⟩
    rw [wp_ret]; imodintro
    rw [show (pure ⟨⟩ : MainProg F) = .ret ⟨⟩ from rfl, wp_ret]; imodintro
    isplitl [Hb]; · iexact Hb
    isplitl [Hh]; · unfold arm0V; iexact Hh
    iexact HO
  isplitl [Hb]; · iexact Hb
  isplitl [Hh]; · iexact Hh
  isplitl [Hl]; · iexact Hl
  isplitl [Hc]; · iexact Hc
  iexact Ht

set_option backward.isDefEq.respectTransparency.types false in
/-- The second arm, likewise. -/
theorem arm1_spec (c : Dev nD) :
    iprop(boundary (c : Thread nD τ) ∗ heldAt (readV m) c ∗ levAts L lv
      ∗ cellsGhost (pin (pcfgs (F := F)) (adm (readV m))) EP2 1 c ∗ toksInit (pin (pcfgs (F := F)) (adm (readV m))) EP2 1 c)
    ⊢ (wp frame (wpE (Pipeline.defs (pcfgs (F := F)) defs₀) (Variants.lift 𝒱₀) (c : Thread nD τ) none) Set.univ arm1
        (fun _ => iprop(boundary (c : Thread nD τ) ∗ heldAt (arm1V m) c)) : sProp 𝕄) := by
  rw [arm1_eq]
  refine BIBase.Entails.trans ?_ (enter_arm1 m c (rest1 (F := F)) _)
  iintro ⟨Hb, Hh, Hl, Hc, Ht⟩
  isplitr [Hb Hh Hl Hc Ht]
  · iintro ⟨Hb, Hh, HO⟩
    rw [wp_bind]
    iapply (StableHlo.wp_hlo_within (Variants.lift 𝒱₀) (c : Thread nD τ) none Set.univ (sub_ucRefs _ (StableHlo.unary_bufs_sub ..))) $$ [Hb Hh]
    · isplitl [Hb]; · iexact Hb
      iexact Hh
    iintro ⟨Hb, Hh⟩
    rw [wp_ret]; imodintro
    rw [show (pure ⟨⟩ : MainProg F) = .ret ⟨⟩ from rfl, wp_ret]; imodintro
    isplitl [Hb]; · iexact Hb
    isplitl [Hh]; · unfold arm1V; iexact Hh
    iexact HO
  isplitl [Hb]; · iexact Hb
  isplitl [Hh]; · iexact Hh
  isplitl [Hl]; · iexact Hl
  isplitl [Hc]; · iexact Hc
  iexact Ht

/-! ## The last item -/

omit [FloatOps F] in
theorem bigSep_pair (Φ : Fin 2 → sProp 𝕄) : bigSep Finset.univ Φ = iprop(Φ 0 ∗ Φ 1) := by
  rw [show (Finset.univ : Finset (Fin 2)) = {0, 1} from rfl, bigSep_insert (by decide), bigSep_singleton]; rfl

theorem branch_two (b : Fin 2) : b = 0 ∨ b = 1 := by omega

/-- The chosen arm. -/
theorem choose_spec (c : Dev nD) :
    iprop(boundary (c : Thread nD τ) ∗ heldAt (readV m) c ∗ levAts L lv ∗ ghostG m c)
    ⊢ (wp frame (wpE (Pipeline.defs (pcfgs (F := F)) defs₀) (Variants.lift 𝒱₀) (c : Thread nD τ) none) Set.univ (HostLoop.case 2 (word m c) arms)
        (fun _ => iprop(boundary (c : Thread nD τ) ∗ heldAt (finalV m) c)) : sProp 𝕄) := by
  have hf : ∀ W : Dev nD → Valuation τ sig (Elt F), finalV m c = W c → (heldAt (finalV m) c : sProp 𝕄) = heldAt W c := fun W h => by
    show iprop(held (c : Thread nD τ) (ucRefs τ sig) (finalV m c) ∗ _) = iprop(held (c : Thread nD τ) (ucRefs τ sig) (W c) ∗ _)
    rw [h]
  rw [HostLoop.case_succ]
  unfold ghostG
  rw [bigSep_pair, bigSep_pair]
  rcases branch_two (HostLoop.branch (word m c) 1) with h | h
  · rw [h, hf (arm0V m) (if_pos h)]
    refine BIBase.Entails.trans ?_ (arm0_spec m c)
    iintro ⟨Hb, Hh, Hl, ⟨Hc0, Hc1⟩, Ht0, Ht1⟩
    isplitl [Hb]; · iexact Hb
    isplitl [Hh]; · iexact Hh
    isplitl [Hl]; · iexact Hl
    isplitl [Hc0]; · iexact Hc0
    iexact Ht0
  · rw [h, hf (arm1V m) (if_neg (by rw [h]; decide))]
    refine BIBase.Entails.trans ?_ (arm1_spec m c)
    iintro ⟨Hb, Hh, Hl, ⟨Hc0, Hc1⟩, Ht0, Ht1⟩
    isplitl [Hb]; · iexact Hb
    isplitl [Hh]; · iexact Hh
    isplitl [Hl]; · iexact Hl
    isplitl [Hc1]; · iexact Hc1
    iexact Ht1

/-- What the read returns. -/
theorem read_eq (W : Valuation τ sig (Elt F)) :
    (HostLoop.elt main_v3 rfl ((rdOp (F := F)).fn fun b => W b.1) : Prog (TpuEff nD τ sig (Elt F) (Pipeline.Sig Λ₀ (Fin 2) fun p => (pcfgs (F := F) p).Adm) .tc) (BitVec 32)) = .ret (wordOf W) := rfl

set_option maxHeartbeats 2000000 in
set_option backward.isDefEq.respectTransparency.types false in
/-- The read, the choice of the arm, the arm. -/
theorem case_spec (c : Dev nD) :
    iprop(boundary (c : Thread nD τ) ∗ heldAt (hostV m) c ∗ levAts L lv ∗ ghostG m c)
    ⊢ (wp frame (wpE (Pipeline.defs (pcfgs (F := F)) defs₀) (Variants.lift 𝒱₀) (c : Thread nD τ) none) Set.univ caseProg
        (fun _ => iprop(boundary (c : Thread nD τ) ∗ heldAt (finalV m) c)) : sProp 𝕄) := by
  iintro ⟨Hb, ⟨Hh, HO⟩, Hl, Hg⟩
  rw [wp_bind]
  iapply (StableHlo.wp_hlo_within (Variants.lift 𝒱₀) (c : Thread nD τ) none Set.univ (sub_ucRefs _ (StableHlo.unary_bufs_sub ..))) $$ [Hb Hh]
  · isplitl [Hb]; · iexact Hb
    iexact Hh
  iintro ⟨Hb, Hh⟩
  rw [read_eq, wp_ret, show wordOf (hostV m c) = word m c from rfl]
  imodintro
  have hx := choose_spec m c
  generalize hp : HostLoop.case 2 (word m c) (arms (F := F)) = p at hx ⊢
  iapply hx
  isplitl [Hb]; · iexact Hb
  isplitl [Hh HO]
  · isplitl [Hh]; · iexact Hh
    iexact HO
  isplitl [Hl]; · iexact Hl
  iexact Hg

/-! ## The program as one segment -/

/-- The program as printed, as a chain. -/
theorem main_eq (c : Dev nD) : main (F := F) c = Pipeline.chain ((opss (F := F)).map StableHlo.seq ++ [caseProg]) := main_chain c

theorem opss_sub : ∀ ops ∈ opss (F := F), ∀ op ∈ ops, op.bufs ⊆ ucRefs τ sig := by
  intro ops h op hop
  refine sub_ucRefs op ?_
  simp only [opss, List.mem_cons, List.not_mem_nil, or_false] at h
  rcases h with rfl | rfl | rfl
  · exact List.forall_iff_forall_mem.mp hostOps0_sub op hop
  · exact List.forall_iff_forall_mem.mp hostOps0_1_sub op hop
  · exact List.forall_iff_forall_mem.mp hostOps0_2_sub op hop

theorem opss_fresh : ∀ ops ∈ opss (F := F), ∀ op ∈ ops, op.fresh = ∅ := by
  intro ops h op hop
  simp only [opss, List.mem_cons, List.not_mem_nil, or_false] at h
  rcases h with rfl | rfl | rfl <;> fin_cases hop <;> rfl

/-- The whole program, from the buffers at launch to the buffers at the end. -/
theorem main_spec (c : Dev nD) :
    iprop(boundary (c : Thread nD τ) ∗ heldAt (launchV m) c ∗ levAts L lv ∗ ghostG m c)
    ⊢ (wp frame (wpE (Pipeline.defs (pcfgs (F := F)) defs₀) (Variants.lift 𝒱₀) (c : Thread nD τ) none) Set.univ (main (F := F) c)
        (fun _ => iprop(boundary (c : Thread nD τ) ∗ heldAt (finalV m) c)) : sProp 𝕄) := by
  rw [main_eq]
  iintro ⟨Hb, ⟨Hh, HO⟩, Hl, Hg⟩
  iapply (wp_seqs (pcfgs (F := F)) defs₀ 𝒱₀ c (ucRefs τ sig) caseProg opss opss_sub opss_fresh (launchV m c)) $$ [Hb Hh]
  · isplitl [Hb]; · iexact Hb
    iexact Hh
  iintro ⟨Hb, Hh⟩
  rw [Pipeline.chain_cons, Pipeline.chain_nil, wp_bind]
  iapply (wp_wand_r frame (wpE (Pipeline.defs (pcfgs (F := F)) defs₀) (Variants.lift 𝒱₀) (c : Thread nD τ) none) Set.univ)
  isplitl
  · iapply (case_spec m c)
    isplitl [Hb]; · iexact Hb
    isplitl [Hh HO]
    · isplitl [Hh]; · unfold hostV; iexact Hh
      iexact HO
    isplitl [Hl]; · iexact Hl
    iexact Hg
  iintro %_ H
  rw [show (pure ⟨⟩ : MainProg F) = .ret ⟨⟩ from rfl, wp_ret]; imodintro
  iexact H

/-- The program as a segment of the launch. -/
def hostSeg : HostSeg (pcfgs (F := F)) (defs₀ (F := F)) 𝒱₀ L lv (Name := ℕ) (U := UU nD τ) where
  prog := main (F := F) 0
  pre c := iprop(heldAt (launchV m) c ∗ ghostG m c)
  post c := heldAt (finalV m) c
  run c β k K := by
    obtain rfl := Subsingleton.elim c 0
    iintro ⟨Hk, Hb, ⟨Hh, Hg⟩, Hl⟩
    rw [wp_bind]
    iapply (wp_wand_r frame (wpE (Pipeline.defs (pcfgs (F := F)) defs₀) (Variants.lift 𝒱₀) ((0 : Dev nD) : Thread nD τ) none) Set.univ)
    isplitl [Hb Hh Hg Hl]
    · iapply (main_spec m 0)
      isplitl [Hb]; · iexact Hb
      isplitl [Hh]; · iexact Hh
      isplitl [Hl]; · iexact Hl
      iexact Hg
    iintro %_ H
    iapply Hk
    iexact H

/-! ## The run -/

/-- The ghost state at launch of one copy of the pipelines'. -/
abbrev cells0 : UR sig nD τ := initOf (cells (pin (pcfgs (F := F)) (adm (readV m))) (cellOf_inj _)) (launchToks (pin (pcfgs (F := F)) (adm (readV m))) (cellOf_inj _))
def u₀ : UU nD τ := (cells0 m, (cells0 m, 1))

/-- The launch's ghost state deals the launch its part and the cores theirs. -/
theorem deal : (ownU (u₀ m) : sProp 𝕄) ⊢ |={Set.univ}=> iprop(BI.own (embL (cells0 m)) ∗ bigSep Finset.univ (ghostG m)) := by
  refine BIBase.Entails.trans (ownU_pair (cells0 m) (cells0 m, 1)) ?_
  iintro ⟨HL, HR⟩
  ihave H := (own_pair_emb (embR : Emb (UR sig nD τ × Counters) 𝕄) (cells0 m) (1 : Counters)) $$ HR
  icases H with ⟨H, -⟩
  imod (fund_ghost (cfgs := pin (pcfgs (F := F)) (adm (readV m))) (EP2 (F := F)) (cellOf_inj _)) $$ H with ⟨Hc, Ht⟩
  imodintro
  isplitl [HL]; · iexact HL
  unfold ghostG
  rw [bigSep_sep']
  isplitl [Hc] <;> iassumption

/-- Every semaphore of the program is scoped. -/
theorem sems_scoped : ∀ s : SemLoc sig, s.isScoped .tc = true := by decide

set_option maxHeartbeats 2000000 in
set_option backward.isDefEq.respectTransparency.types false in
/-- The run: from any memory with zero counters, every weakly fair execution ends, the unscoped buffers of every core
    then hold `finalV`, and every semaphore counter reads zero. -/
theorem run_main (g : Dev nD → PrngReg) : θ_run defs (onTc (τ := τ) (main (F := F))) ⟨m, fun _ => 0, g⟩
    (fun r => (∀ c : Dev nD, ∀ b ∈ ucRefs τ sig, r.2.mem (c, b) = finalV m c b) ∧ r.2.sem = fun _ => 0) :=
  Pipeline.θ_run_regions_kit_sems (pcfgs (F := F)) (adm (readV m)) (pdats (readV m)) () (cellOf_inj _) embL defs₀ 𝒱₀ L lv m g main
    [Seg.host (hostSeg m)]
    (hmain := fun c Q => by
      obtain rfl := Subsingleton.elim c 0
      rw [show Seg.run [Seg.host (hostSeg m)] = (main (F := F) 0 >>= fun _ => pure ⟨⟩) from rfl, Prog.bind_pure (main (F := F) 0)])
    (hnd := by simp only [Seg.pipes_host, Seg.pipes_nil]; exact List.nodup_nil)
    (O₀ := 0) (hL := fun _ _ => rfl) (G := ghostG m) (u₀ := u₀ m) (hu₀ := deal m)
    (T₀ := fun c => iprop(heldAt (launchV m) c ∗ ghostG m c))
    (Tₙ := fun c => held (c : Thread nD τ) (ucRefs τ sig) (finalV m c))
    (hch := ⟨fun c => .rfl, fun c => .rfl⟩)
    (hinit := by
      refine Pipeline.initEach L lv fun c => ?_
      rw [show unscopedBufs c (fun b => m ((c : Thread nD τ).loc b)) = held (c : Thread nD τ) (ucRefs τ sig) (launchV m c) from Pipeline.unscopedBufs_held c (launchV m c)]
      iintro ⟨⟨Hh, -, HO, -, -, Hg⟩, -⟩
      imodintro
      isplitl [Hh HO]
      · isplitl [Hh]; · iexact Hh
        iexists ∅; iexact HO
      iexact Hg)
    (QY := fun c s => ∀ b ∈ ucRefs τ sig, s.mem ((c : Dev nD), b) = finalV m c b)
    (hfin := fun c s' => by
      unfold held
      iintro ⟨Hh, HSI⟩
      ihave Hr := (pointsTo_read_all (ucRefs τ sig) (fun b => ((c : Dev nD), b)) (fun b => finalV m c b) s') $$ [Hh HSI]
      · isplitl [Hh] <;> iassumption
      icases Hr with ⟨%h, HSI⟩
      imodintro
      isplitr; · ipureintro; exact h
      iexact HSI)
    (hQ := fun s h hz => ⟨h, funext fun g' => hz g' (Or.inr (sems_scoped g'.2))⟩)

end Cert.KernelIdeal.Own
-- ==== Proof.Ideal.Host.lean ====
/-
  What the buffers hold at the end: the arguments what they held, the result what the chosen pipeline computed.
-/
module

public import proofs.«01_k».proof.Proof.Ideal.Launch
public import Idealize.ShloMosaic.Lib.Pipeline.FrameTail

@[expose] public section

set_option maxRecDepth 16384

noncomputable section

namespace Cert.KernelIdeal.Own

open Cert.KernelIdeal Cert.KernelIdeal.Gen
open Idealize.ShloMosaic
open Idealize.ShloMosaic.TcCoe
open Idealize.SL.Sem
open Idealize.ShloMosaic.Pipeline
open Idealize.ShloMosaic.StableHlo (after)

variable {F : FTy → Type} [FloatOps F] (m : (ℓ : Loc nD τ sig) → Buf (Elt F) ℓ)

/-- What the host's operations write, in order. -/
def hostW : List (Ref sig .tc) :=
  [main_c, main_c_0,
   main_call0_c, main_call0_v0, main_call0_v1, main_call0_c_0, main_call0_v2, main_call0_call0.v0.ref, main_call0_v4, main_call0_c_1,
   main_call0_v5, main_call0_v6, main_call0_c_2, main_call0_v7, main_call0_v8, main_call0_c_3, main_call0_v9, main_call0_v10,
   main_call0_v11, main_call0_v12, main_call0_v13, main_v0,
   main_v1, main_c_1, main_v2]

theorem hostW_writes : (opss (F := F)).flatten.map HloOp.writes = hostW.map fun r => {Proc.devRef (τ := τ) .tc r} := rfl

/-- A buffer that the host does not write holds what it held at launch. -/
theorem hostV_of (c : Dev nD) (r : Ref sig .tc) (h : r ∉ hostW) : hostV m c (Proc.devRef .tc r : DevRef τ sig) = m (c, Proc.devRef .tc r) :=
  StableHlo.after_of_writes_sub _ _ (StableHlo.forall_writes_sub_of_map hostW_writes) h

theorem readV_of (c : Dev nD) (r : Ref sig .tc) (h : r ≠ main_v3) : readV m c (Proc.devRef .tc r : DevRef τ sig) = hostV m c (Proc.devRef .tc r) :=
  StableHlo.result_of_writes_ne _ _ main_v3 r rfl h

theorem arm0V_of (c : Dev nD) (r : Ref sig .tc) (h : r ≠ main_v4) : arm0V m c (Proc.devRef .tc r : DevRef τ sig) = V0 (readV m) c (Proc.devRef .tc r) :=
  StableHlo.result_of_writes_ne _ _ main_v4 r rfl h
theorem arm1V_of (c : Dev nD) (r : Ref sig .tc) (h : r ≠ main_v4) : arm1V m c (Proc.devRef .tc r : DevRef τ sig) = V1 (readV m) c (Proc.devRef .tc r) :=
  StableHlo.result_of_writes_ne _ _ main_v4 r rfl h

/-- A buffer that nothing writes holds at the end what it held at launch. -/
theorem finalV_of (c : Dev nD) (r : Ref sig .tc) (h : r ∉ main_v3 :: main_v4 :: main_case0b0_v5 :: main_case0b1_v5 :: hostW) :
    finalV m c (Proc.devRef .tc r : DevRef τ sig) = m (c, Proc.devRef .tc r) := by
  simp only [List.mem_cons, not_or] at h
  obtain ⟨h3, h4, h50, h51, hW⟩ := h
  unfold finalV
  split
  · rw [arm0V_of m c r h4, V0_off _ c r h50, readV_of m c r h3, hostV_of m c r hW]
  · rw [arm1V_of m c r h4, V1_off _ c r h51, readV_of m c r h3, hostV_of m c r hW]

/-- The result at the end is the first pipeline's where the branch word chooses it, -/
theorem finalV_out0 (c : Dev nD) (h : HostLoop.branch (word m c) 1 = 0) :
    finalV m c (Proc.devRef .tc main_v4 : DevRef τ sig) = (G0 (adm (readV m) 0) (memOf (readV m)) c : (⟨S8192x2048, .f32⟩ : BufTy).Contents (Elt F)) := by
  unfold finalV; rw [if_pos h]
  exact (StableHlo.unary_result' (τ := τ) (x := main_case0b0_v5) (y := main_v4) id _ _ _).trans (V0_out _ c)
/-- and the second's where not. -/
theorem finalV_out1 (c : Dev nD) (h : HostLoop.branch (word m c) 1 ≠ 0) :
    finalV m c (Proc.devRef .tc main_v4 : DevRef τ sig) = (G1 (adm (readV m) 1) (memOf (readV m)) c : (⟨S8192x2048, .f32⟩ : BufTy).Contents (Elt F)) := by
  unfold finalV; rw [if_neg h]
  exact (StableHlo.unary_result' (τ := τ) (x := main_case0b1_v5) (y := main_v4) id _ _ _).trans (V1_out _ c)

theorem args_kept : ∀ r ∈ [main_arg0, main_arg1, main_arg2, main_arg3, main_arg4, main_arg5, main_arg6, main_arg7, main_arg8, main_arg9],
    r ∉ main_v3 :: main_v4 :: main_case0b0_v5 :: main_case0b1_v5 :: hostW := by decide

/-- The run, read at the result and at the arguments. -/
theorem run_read (g : Dev nD → PrngReg) : θ_run defs (onTc (τ := τ) (main (F := F))) ⟨m, fun _ => 0, g⟩
    (fun r => (∀ c : Dev nD, r.2.mem ((c : Thread nD τ).loc main_v4) = finalV m c (Proc.devRef .tc main_v4 : DevRef τ sig)
      ∧ ∀ b ∈ [main_arg0, main_arg1, main_arg2, main_arg3, main_arg4, main_arg5, main_arg6, main_arg7, main_arg8, main_arg9],
          r.2.mem ((c : Thread nD τ).loc b) = m ((c : Thread nD τ).loc b)) ∧ r.2.sem = fun _ => 0) :=
  (θ_run defs _ _).mono (fun r h => ⟨fun c => ⟨h.1 c _ (Pipeline.devRef_mem_ucRefs (b := main_v4) rfl), fun b hb =>
      (h.1 c _ (Pipeline.devRef_mem_ucRefs (b := b) (by revert b; decide))).trans (finalV_of m c b (args_kept b hb))⟩, h.2⟩) (run_main m g)

end Cert.KernelIdeal.Own
-- ==== Proof.Frames.lean ====
/-
  The claims that say what the runs leave: each program ends, keeps its arguments, and leaves every counter at zero.
-/
module

public import proofs.«01_k».proof.Defs
public import proofs.«01_k».proof.Proof.Ideal.Host
public import proofs.«01_k».proof.Proof.Bits.Host
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel ends, keeps its arguments and leaves its counters at zero. -/
theorem frame_Kernel : Cert.quiescent_Kernel := fun m g _ =>
  (θ_run _ _ _).mono (fun _ h => ⟨fun c => by
    have k := (h.1 c).2
    simp only [List.forall_mem_cons] at k
    obtain ⟨h0, h1, h2, h3, h4, h5, h6, h7, h8, h9, -⟩ := k
    exact ⟨h0, h1, h2, h3, h4, h5, h6, h7, h8, h9⟩, h.2⟩) (Cert.Kernel.Own.run_read m g)

/-- So does the idealized kernel. -/
theorem frame_KernelIdeal : Cert.quiescent_KernelIdeal := fun m g _ =>
  (θ_run _ _ _).mono (fun _ h => ⟨fun c => by
    have k := (h.1 c).2
    simp only [List.forall_mem_cons] at k
    obtain ⟨h0, h1, h2, h3, h4, h5, h6, h7, h8, h9, -⟩ := k
    exact ⟨h0, h1, h2, h3, h4, h5, h6, h7, h8, h9⟩, h.2⟩) (Cert.KernelIdeal.Own.run_read m g)

/-- So does the reference. -/
theorem frame_ReferenceIdeal : Cert.quiescent_ReferenceIdeal := fun m g _ =>
  (θ_run _ _ _).mono (fun r h => ⟨fun c => (h c).2, sem_eq_zero_of_no_sems (by decide) r.2⟩) (Cert.ReferenceIdeal.Value.run m g)

end Cert.Proof

end
-- ==== Proof.Value.Rows.lean ====
/-
  Words and rows, with no program named: what the floor-modulo of a word by a power of two is, the row that a
  rotation and a doubling of a block of rows read, and the row that a gather with a range test reads.
-/
module

public import Idealize.ShloMosaic.Lib.Affine
public import Idealize.ShloMosaic.Lib.ReduceAll
public import Idealize.ShloMosaic.Lib.Routing.Ops

@[expose] public section

set_option maxRecDepth 16384

noncomputable section

namespace Cert.Value

open Idealize.ShloMosaic Idealize.ShloMosaic.ValueIdx

/-- The lengths of the eight tables. -/
abbrev Cyc (n : Nat) : Prop := n = 16 ∨ n = 32 ∨ n = 64 ∨ n = 128 ∨ n = 256 ∨ n = 512 ∨ n = 1024 ∨ n = 2048

/-! ## Floor-modulo of a word -/

/-- The remainder of the truncating division, moved up by the divisor when it is negative. -/
def fmod (u : ArithUnit) (x n : BitVec 32) : BitVec 32 :=
  if (IntOp.remsi u x n).msb = true then IntOp.remsi u x n + n else IntOp.remsi u x n

/-- The floor-modulo of a word by a power of two is the word's remainder, read unsigned. -/
theorem fmod_toNat (u : ArithUnit) (x : BitVec 32) {n : Nat} (hn : Cyc n) : (fmod u x (BitVec.ofNat 32 n)).toNat = x.toNat % n := by
  have hpos : 0 < (BitVec.ofNat 32 n).toInt := by rcases hn with h | h | h | h | h | h | h | h <;> subst h <;> decide
  have hm : (BitVec.ofNat 32 n).msb = false := by rcases hn with h | h | h | h | h | h | h | h <;> subst h <;> decide
  have hN : (BitVec.ofNat 32 n).toNat = n := by rcases hn with h | h | h | h | h | h | h | h <;> subst h <;> decide
  have hb : n ≤ 2048 := by omega
  have h0 : 0 < n := by omega
  have hx := x.isLt
  unfold fmod
  rw [IntOp.remsi_of_pos u hpos, BitVec.srem_eq, hm]
  cases hs : x.msb
  · dsimp only
    have hv : (x % BitVec.ofNat 32 n).toNat = x.toNat % n := by rw [BitVec.toNat_umod, hN]
    have hlt : x.toNat % n < n := Nat.mod_lt _ h0
    have hf : (x % BitVec.ofNat 32 n).msb = false := by
      rw [BitVec.msb_eq_false_iff_two_mul_lt, hv]; omega
    rw [hf, if_neg (by decide), hv]
  · dsimp only
    have hxb : 2 ^ 32 ≤ 2 * x.toNat := by rw [BitVec.msb_eq_true_iff_two_mul_ge] at hs; exact hs
    have hneg : (-x).toNat = 2 ^ 32 - x.toNat := by rw [BitVec.toNat_neg]; omega
    have ha : (-x % BitVec.ofNat 32 n).toNat = (2 ^ 32 - x.toNat) % n := by rw [BitVec.toNat_umod, hN, hneg]
    have hlt : (2 ^ 32 - x.toNat) % n < n := Nat.mod_lt _ h0
    have hr : (-(-x % BitVec.ofNat 32 n)).toNat = (2 ^ 32 - (2 ^ 32 - x.toNat) % n) % 2 ^ 32 := by rw [BitVec.toNat_neg, ha]
    have hfix : ∀ a : Nat, a = (2 ^ 32 - x.toNat) % n → (a = 0 → x.toNat % n = 0) ∧ (a ≠ 0 → x.toNat % n = n - a) := by
      intro a h
      rcases hn with e | e | e | e | e | e | e | e <;> subst e <;> omega
    obtain ⟨f0, f1⟩ := hfix _ rfl
    generalize (2 ^ 32 - x.toNat) % n = a at *
    by_cases hz : a = 0
    · have hf : (-(-x % BitVec.ofNat 32 n)).msb = false := by
        rw [BitVec.msb_eq_false_iff_two_mul_lt, hr, hz]; decide
      rw [hf, if_neg (by decide), hr, f0 hz, hz]; rfl
    · have hf : (-(-x % BitVec.ofNat 32 n)).msb = true := by
        rw [BitVec.msb_eq_true_iff_two_mul_ge, hr]; omega
      rw [hf, if_pos rfl, BitVec.toNat_add, hr, hN, f1 hz]
      omega

private theorem pick {α : Type} (b c : Bool) (x y : α) (h : c = false → b = false) :
    Scalar.select (BitVec.ofBool b &&& BitVec.ofBool c) x y = if b = true then x else y := by
  cases b <;> cases c <;> first | rfl | (exact absurd (h rfl) (by decide))

theorem ne_of_msb (r : BitVec 32) : (r != 0#32) = false → r.msb = false := by
  intro h
  have : r = 0#32 := by simpa using h
  subst this; rfl

/-- The floor-modulo as a kernel spells it on scalars: the divisor against zero first, then an exclusive or of the signs. -/
def rem1 (x n : BitVec 32) : BitVec 32 :=
  let n' := Scalar.select (Scalar.cmpi .eq n 0#32) 1#32 n
  let r := Scalar.remsi x n'
  Scalar.select (Scalar.andi (Scalar.xori (Scalar.cmpi .slt r 0#32) (Scalar.cmpi .slt n' 0#32)) (Scalar.cmpi .ne r 0#32)) (Scalar.addi r n') r

/-- It is the floor-modulo. -/
theorem rem1_eq (x : BitVec 32) {n : Nat} (hn : Cyc n) : rem1 x (BitVec.ofNat 32 n) = fmod .scalar x (BitVec.ofNat 32 n) := by
  have h0 : Scalar.select (Scalar.cmpi .eq (BitVec.ofNat 32 n) 0#32) 1#32 (BitVec.ofNat 32 n) = BitVec.ofNat 32 n := by
    rcases hn with h | h | h | h | h | h | h | h <;> subst h <;> decide
  have h1 : Scalar.cmpi .slt (BitVec.ofNat 32 n) 0#32 = BitVec.ofBool false := by
    rcases hn with h | h | h | h | h | h | h | h <;> subst h <;> decide
  unfold rem1 fmod
  dsimp only
  rw [h0, h1]
  show Scalar.select ((BitVec.ofBool (BitVec.slt (IntOp.remsi .scalar x _) 0#32) ^^^ BitVec.ofBool false) &&& BitVec.ofBool (IntOp.remsi .scalar x _ != 0#32)) _ _ = _
  rw [show ∀ b : Bool, BitVec.ofBool b ^^^ BitVec.ofBool false = BitVec.ofBool b by decide, BitVec.slt_zero_eq_msb, pick _ _ _ _ (ne_of_msb _)]
  rfl

/-- The floor-modulo as the host spells it, at an index: the divisor against zero first, then the signs compared. -/
def rem2 (x n : BitVec 32) : BitVec 32 :=
  let n' := Scalar.select (IntOp.cmpi .eq n 0#32) 1#32 n
  let r := IntOp.remsi .host x n'
  Scalar.select (IntOp.andi (IntOp.cmpi .ne (IntOp.cmpi .slt r 0#32) (IntOp.cmpi .slt n' 0#32)) (IntOp.cmpi .ne r 0#32)) (IntOp.addi r n') r

/-- It is the floor-modulo. -/
theorem rem2_eq (x : BitVec 32) {n : Nat} (hn : Cyc n) : rem2 x (BitVec.ofNat 32 n) = fmod .host x (BitVec.ofNat 32 n) := by
  have h0 : Scalar.select (IntOp.cmpi .eq (BitVec.ofNat 32 n) 0#32) 1#32 (BitVec.ofNat 32 n) = BitVec.ofNat 32 n := by
    rcases hn with h | h | h | h | h | h | h | h <;> subst h <;> decide
  have h1 : IntOp.cmpi .slt (BitVec.ofNat 32 n) 0#32 = BitVec.ofBool false := by
    rcases hn with h | h | h | h | h | h | h | h <;> subst h <;> decide
  unfold rem2 fmod
  dsimp only
  rw [h0, h1]
  show Scalar.select (BitVec.ofBool (BitVec.ofBool (BitVec.slt (IntOp.remsi .host x _) 0#32) != BitVec.ofBool false) &&& BitVec.ofBool (IntOp.remsi .host x _ != 0#32)) _ _ = _
  rw [show ∀ b : Bool, BitVec.ofBool (BitVec.ofBool b != BitVec.ofBool false) = BitVec.ofBool b by decide, BitVec.slt_zero_eq_msb, pick _ _ _ _ (ne_of_msb _)]
  rfl

/-- The host's spelling on arrays, at an index. -/
theorem rem2_at {s : Shape} (X N z z' : IVec s 32) (g : IVec s 1) (n : BitVec 32) (i : s.Idx)
    (hN : N i = Scalar.select (IntOp.cmpi .eq n 0#32) 1#32 n) (hg : g i = IntOp.cmpi .slt (N i) 0#32) (hz : z i = 0#32) (hz' : z' i = 0#32) :
    select (andi (cmpi .ne (cmpi .slt (Host.remsi X N) z) g) (cmpi .ne (Host.remsi X N) z')) (addi (Host.remsi X N) N) (Host.remsi X N) i
      = rem2 (X i) n := by
  show Scalar.select (IntOp.andi (IntOp.cmpi .ne (IntOp.cmpi .slt (IntOp.remsi .host (X i) (N i)) (z i)) (g i)) (IntOp.cmpi .ne (IntOp.remsi .host (X i) (N i)) (z' i)))
    (IntOp.addi (IntOp.remsi .host (X i) (N i)) (N i)) (IntOp.remsi .host (X i) (N i)) = _
  rw [hg, hz, hz', hN]
  rfl

/-- The kernel's rotation amount `(n - o) mod n` undoes the offset `o`. -/
theorem rem1_sub (o : BitVec 32) {n : Nat} (hn : Cyc n) : ((rem1 (Scalar.subi (BitVec.ofNat 32 n) o) (BitVec.ofNat 32 n)).toNat + o.toNat) % n = 0 := by
  rw [rem1_eq _ hn, fmod_toNat _ _ hn]
  show ((BitVec.ofNat 32 n - o).toNat % n + o.toNat) % n = 0
  have hN : (BitVec.ofNat 32 n).toNat = n := by rcases hn with h | h | h | h | h | h | h | h <;> subst h <;> decide
  have ho := o.isLt
  rw [BitVec.toNat_sub, hN]
  rcases hn with e | e | e | e | e | e | e | e <;> subst e <;> omega

/-! ## Rows of a block -/

variable {F : FTy → Type} [FloatOps F] {C : Nat}

/-- A rotation of the rows by `s` reads at row `y` the row `y + o`, where `s + o` is a multiple of the number of rows. -/
theorem rotate_row {n : Nat} [NeZero n] (s : BitVec 32) (o : Nat) (hs : (s.toNat + o) % n = 0) (w : FVec F ⟨2, ![n, C]⟩ .f32)
    (h : (⟨2, ![n, C]⟩ : Shape).Rotates 0 none) (y : Nat) (x : Fin C) :
    dynamicRotate 0 s none w h (ix2 (Fin.ofNat n y) x) = w (ix2 (Fin.ofNat n (y + o)) x) := by
  unfold dynamicRotate
  refine congrArg w (funext fun b => ?_)
  match b with
  | ⟨0, _⟩ =>
    refine Fin.ext ?_
    show (y % n + n - (s.toNat + 0) % n) % n = (y + o) % n
    have hp : 0 < n := Nat.pos_of_neZero n
    have h1 : s.toNat % n < n := Nat.mod_lt _ hp
    have e : (y % n + n - (s.toNat + 0) % n) + (s.toNat + o) = y % n + n * (s.toNat / n) + n + o := by
      have := Nat.div_add_mod s.toNat n
      rw [Nat.add_zero]; omega
    have e2 : ((y % n + n - (s.toNat + 0) % n) + (s.toNat + o)) % n = (y % n + n - (s.toNat + 0) % n) % n := by
      rw [Nat.add_mod, hs, Nat.add_zero, Nat.mod_mod]
    rw [← e2, e]
    have e3 : y % n + n * (s.toNat / n) + n + o = (y % n + o) + n * (s.toNat / n + 1) := by rw [Nat.mul_add]; omega
    rw [e3, Nat.add_mul_mod_self_left, Nat.mod_add_mod]
  | ⟨1, _⟩ => rfl

/-- A block put twice on top of itself reads at row `y` the block's row `y`, modulo its number of rows. -/
theorem double_row {n k : Nat} [NeZero n] [NeZero k] (hk : k = n + n) (a : FVec F ⟨2, ![n, C]⟩ .f32)
    (h : Shape.Concatenates [⟨2, ![n, C]⟩, ⟨2, ![n, C]⟩] ⟨2, ![k, C]⟩ 0) (y : Nat) (x : Fin C) :
    concatenate ⟨2, ![k, C]⟩ 0 [⟨⟨2, ![n, C]⟩, a⟩, ⟨⟨2, ![n, C]⟩, a⟩] h (ix2 (Fin.ofNat k y) x) = a (ix2 (Fin.ofNat n y) x) := by
  have hp : 0 < n := Nat.pos_of_neZero n
  have hd : y % k % n = y % n := Nat.mod_mod_of_dvd y ⟨2, by omega⟩
  have hlt : y % k < k := Nat.mod_lt _ (by omega)
  by_cases hc : y % k < n
  · refine concatenate_pair_apply_left 0 a a h _ rfl _ fun b => ?_
    match b with
    | ⟨0, _⟩ =>
      show y % n = y % k
      rw [← hd, Nat.mod_eq_of_lt hc]
    | ⟨1, _⟩ => rfl
  · refine concatenate_pair_apply_right 0 a a h _ rfl rfl _ (fun b hb => ?_) ?_
    · match b with
      | ⟨0, _⟩ => exact absurd rfl hb
      | ⟨1, _⟩ => rfl
    · show y % n + n = y % k
      rw [← hd, Nat.mod_eq_sub_mod (by omega : n ≤ y % k), Nat.mod_eq_of_lt (by omega)]
      omega

/-- One step of the kernel: the block so far twice on top of itself, and the next table's block rotated, added. -/
theorem step_row {n k : Nat} [NeZero n] [NeZero k] (hk : k = n + n) (s : BitVec 32) (o : Nat) (hs : (s.toNat + o) % k = 0)
    (a : FVec F ⟨2, ![n, C]⟩ .f32) (w : FVec F ⟨2, ![k, C]⟩ .f32)
    (h : Shape.Concatenates [⟨2, ![n, C]⟩, ⟨2, ![n, C]⟩] ⟨2, ![k, C]⟩ 0) (h' : (⟨2, ![k, C]⟩ : Shape).Rotates 0 none)
    {A : F .f32} (y : Nat) (x : Fin C) (ha : a (ix2 (Fin.ofNat n y) x) = A) :
    addf (concatenate ⟨2, ![k, C]⟩ 0 [⟨⟨2, ![n, C]⟩, a⟩, ⟨⟨2, ![n, C]⟩, a⟩] h) (dynamicRotate 0 s none w h') (ix2 (Fin.ofNat k y) x)
      = FloatOps.addf A (w (ix2 (Fin.ofNat k (y + o)) x)) := by
  exact congrArg₂ FloatOps.addf ((double_row hk a h y x).trans ha) (rotate_row s o hs w h' y x)

/-- Eight numbers added in order. -/
def sum8 (v0 v1 v2 v3 v4 v5 v6 v7 : F .f32) : F .f32 :=
  FloatOps.addf (FloatOps.addf (FloatOps.addf (FloatOps.addf (FloatOps.addf (FloatOps.addf (FloatOps.addf v0 v1) v2) v3) v4) v5) v6) v7

end Cert.Value

end
-- ==== Proof.Value.Steps.lean ====
/-
  A grid point's block of the result, row by row: row y is the sum of the eight tables' rows (y + offset) modulo the
  table's length, in both pipelines.
-/
module

public import proofs.«01_k».proof.Proof.Ideal.Host
public import proofs.«01_k».proof.Proof.Value.Rows

@[expose] public section

set_option maxRecDepth 16384

noncomputable section

namespace Cert.KernelIdeal.Own

open Cert.KernelIdeal Cert.KernelIdeal.Gen Cert.Value
open Idealize.ShloMosaic Idealize.ShloMosaic.ValueIdx

variable {F : FTy → Type} [FloatOps F]

/-- Row `y` of the sum of eight rotated tables, column `x`. -/
def rowSum (o : Fin 8 → Nat) (w2 : S16x512.Idx → Elt F .f32) (w3 : S32x512.Idx → Elt F .f32) (w4 : S64x512.Idx → Elt F .f32) (w5 : S128x512.Idx → Elt F .f32) (w6 : S256x512.Idx → Elt F .f32) (w7 : S512x512.Idx → Elt F .f32) (w8 : S1024x512.Idx → Elt F .f32) (w9 : S2048x512.Idx → Elt F .f32) (y : Nat) (x : Fin 512) : F .f32 :=
  sum8 (F := F) (w2 (ix2 (Fin.ofNat 16 (y + o 0)) x)) (w3 (ix2 (Fin.ofNat 32 (y + o 1)) x)) (w4 (ix2 (Fin.ofNat 64 (y + o 2)) x)) (w5 (ix2 (Fin.ofNat 128 (y + o 3)) x))
    (w6 (ix2 (Fin.ofNat 256 (y + o 4)) x)) (w7 (ix2 (Fin.ofNat 512 (y + o 5)) x)) (w8 (ix2 (Fin.ofNat 1024 (y + o 6)) x)) (w9 (ix2 (Fin.ofNat 2048 (y + o 7)) x))

section
variable (w2 : S16x512.Idx → Elt F .f32) (w3 : S32x512.Idx → Elt F .f32) (w4 : S64x512.Idx → Elt F .f32) (w5 : S128x512.Idx → Elt F .f32) (w6 : S256x512.Idx → Elt F .f32) (w7 : S512x512.Idx → Elt F .f32) (w8 : S1024x512.Idx → Elt F .f32) (w9 : S2048x512.Idx → Elt F .f32)

/-! ### The first pipeline, with amounts from the table -/

/-- The amount a table entry `o` gives for a table of `n` rows. -/
abbrev amt (n : Nat) (o : BitVec 32) : BitVec 32 := rem1 (Scalar.subi (BitVec.ofNat 32 n) o) (BitVec.ofNat 32 n)

/-- It undoes any number whose remainder by the table's length the entry holds. -/
theorem amt_off {n : Nat} (o : BitVec 32) (a : Nat) (hn : Cyc n) (h : o.toNat = a % n) : ((amt n o).toNat + a) % n = 0 := by
  have := rem1_sub o hn
  rw [h, Nat.add_mod_mod] at this
  exact this

theorem pay01_row (w2 : S16x512.Idx → Elt F .f32) (w3 : S32x512.Idx → Elt F .f32) (o0 o1 : BitVec 32) (a0 a1 : Nat)
    (h0 : ((amt 16 o0).toNat + a0) % 16 = 0) (h1 : ((amt 32 o1).toNat + a1) % 32 = 0) (y : Nat) (x : Fin 512) :
    k0_pay1 (F := F) w2 o0 w3 o1 (ix2 (Fin.ofNat 32 y) x)
      = FloatOps.addf (φ := .f32) (w2 (ix2 (Fin.ofNat 16 (y + a0)) x)) (w3 (ix2 (Fin.ofNat 32 (y + a1)) x)) :=
  step_row (n := 16) (k := 32) rfl (amt 32 o1) a1 h1 (dynamicRotate 0 (amt 16 o0) none w2 rotates_S16x512_d0) w3
    concatenates_S16x512_S16x512_S32x512_d0 rotates_S32x512_d0 y x (rotate_row (amt 16 o0) a0 h0 w2 rotates_S16x512_d0 y x)

theorem pay02_row (v : S32x512.Idx → Elt F .f32) (w4 : S64x512.Idx → Elt F .f32) (w5 : S128x512.Idx → Elt F .f32) (o2 o3 : BitVec 32) (a2 a3 : Nat)
    (h2 : ((amt 64 o2).toNat + a2) % 64 = 0) (h3 : ((amt 128 o3).toNat + a3) % 128 = 0) (y : Nat) (x : Fin 512)
    {A : F .f32} (hA : v (ix2 (Fin.ofNat 32 y) x) = A) :
    k0_pay2 (F := F) v w4 o2 w5 o3 (ix2 (Fin.ofNat 128 y) x)
      = FloatOps.addf (φ := .f32) (FloatOps.addf (φ := .f32) A (w4 (ix2 (Fin.ofNat 64 (y + a2)) x))) (w5 (ix2 (Fin.ofNat 128 (y + a3)) x)) :=
  step_row (n := 64) (k := 128) rfl (amt 128 o3) a3 h3 _ w5 concatenates_S64x512_S64x512_S128x512_d0 rotates_S128x512_d0 y x
    (step_row (n := 32) (k := 64) rfl (amt 64 o2) a2 h2 v w4 concatenates_S32x512_S32x512_S64x512_d0 rotates_S64x512_d0 y x hA)

theorem pay03_row (v : S128x512.Idx → Elt F .f32) (w6 : S256x512.Idx → Elt F .f32) (w7 : S512x512.Idx → Elt F .f32) (o4 o5 : BitVec 32) (a4 a5 : Nat)
    (h4 : ((amt 256 o4).toNat + a4) % 256 = 0) (h5 : ((amt 512 o5).toNat + a5) % 512 = 0) (y : Nat) (x : Fin 512)
    {A : F .f32} (hA : v (ix2 (Fin.ofNat 128 y) x) = A) :
    k0_pay3 (F := F) v w6 (Scalar.subi 256#32 o4) 256#32 0#32 w7 o5 (ix2 (Fin.ofNat 512 y) x)
      = FloatOps.addf (φ := .f32) (FloatOps.addf (φ := .f32) A (w6 (ix2 (Fin.ofNat 256 (y + a4)) x))) (w7 (ix2 (Fin.ofNat 512 (y + a5)) x)) :=
  step_row (n := 256) (k := 512) rfl (amt 512 o5) a5 h5 _ w7 concatenates_S256x512_S256x512_S512x512_d0 rotates_S512x512_d0 y x
    (step_row (n := 128) (k := 256) rfl (amt 256 o4) a4 h4 v w6 concatenates_S128x512_S128x512_S256x512_d0 rotates_S256x512_d0 y x hA)

/-- A block cast to one more axis of length one and read through the matching index is the block. -/
theorem cast_back (v : S2048x512.Idx → Elt F .f32) (h : S2048x512.ShapeCasts S1x2048x512) (h' : S2048x512.numel = S1x2048x512.numel) (y : S2048x512.Idx) :
    shapeCast S1x2048x512 v h (Shape.reshapeEquiv h' y) = v y :=
  congrArg v ((Shape.reshapeEquiv_reshapeEquiv _ _ y).trans (Shape.reshapeEquiv_self _ y))

theorem stepVal0_row (o : S8.Idx → Elt F .i32) (a : Fin 8 → Nat)
    (h0 : ((amt 16 (o (ix8 0))).toNat + a 0) % 16 = 0) (h1 : ((amt 32 (o (ix8 1))).toNat + a 1) % 32 = 0)
    (h2 : ((amt 64 (o (ix8 2))).toNat + a 2) % 64 = 0) (h3 : ((amt 128 (o (ix8 3))).toNat + a 3) % 128 = 0)
    (h4 : ((amt 256 (o (ix8 4))).toNat + a 4) % 256 = 0) (h5 : ((amt 512 (o (ix8 5))).toNat + a 5) % 512 = 0)
    (h6 : ((amt 1024 (o (ix8 6))).toNat + a 6) % 1024 = 0) (h7 : ((amt 2048 (o (ix8 7))).toNat + a 7) % 2048 = 0)
    (y : Nat) (x : Fin 512) :
    stepVal0 o w2 w3 w4 w5 w6 w7 w8 w9 (ix2 (Fin.ofNat 2048 y) x) = rowSum a w2 w3 w4 w5 w6 w7 w8 w9 y x :=
  (cast_back _ shapeCasts_S2048x512_S1x2048x512 _ _).trans
    (step_row (n := 1024) (k := 2048) rfl (amt 2048 (o (ix8 7))) (a 7) h7 _ w9 concatenates_S1024x512_S1024x512_S2048x512_d0 rotates_S2048x512_d0 y x
      (step_row (n := 512) (k := 1024) rfl (amt 1024 (o (ix8 6))) (a 6) h6 _ w8 concatenates_S512x512_S512x512_S1024x512_d0 rotates_S1024x512_d0 y x
        (pay03_row _ w6 w7 _ _ _ _ h4 h5 y x (pay02_row _ w4 w5 _ _ _ _ h2 h3 y x (pay01_row w2 w3 _ _ _ _ h0 h1 y x)))))

/-! ### The second pipeline, with literal amounts -/

/-- One step of the second pipeline: the block twice on top of itself, and the next table's block rotated by a literal. -/
def up {n k : Nat} (s : BitVec 32) (h : Shape.Concatenates [⟨2, ![n, 512]⟩, ⟨2, ![n, 512]⟩] ⟨2, ![k, 512]⟩ 0) (h' : (⟨2, ![k, 512]⟩ : Shape).Rotates 0 none)
    (a : FVec F ⟨2, ![n, 512]⟩ .f32) (w : FVec F ⟨2, ![k, 512]⟩ .f32) : FVec F ⟨2, ![k, 512]⟩ .f32 :=
  addf (concatenate ⟨2, ![k, 512]⟩ 0 [⟨⟨2, ![n, 512]⟩, a⟩, ⟨⟨2, ![n, 512]⟩, a⟩] h) (dynamicRotate 0 s none w h')

theorem up_row {n k : Nat} [NeZero n] [NeZero k] (hk : k = n + n) (s : BitVec 32) (o : Nat) (hs : (s.toNat + o) % k = 0)
    (h : Shape.Concatenates [⟨2, ![n, 512]⟩, ⟨2, ![n, 512]⟩] ⟨2, ![k, 512]⟩ 0) (h' : (⟨2, ![k, 512]⟩ : Shape).Rotates 0 none)
    (a : FVec F ⟨2, ![n, 512]⟩ .f32) (w : FVec F ⟨2, ![k, 512]⟩ .f32) {A : F .f32} (y : Nat) (x : Fin 512) (ha : a (ix2 (Fin.ofNat n y) x) = A) :
    up s h h' a w (ix2 (Fin.ofNat k y) x) = FloatOps.addf A (w (ix2 (Fin.ofNat k (y + o)) x)) :=
  step_row hk s o hs a w h h' y x ha

/-- The seven smaller tables' block is the chain of such steps. -/
theorem pay1_eq : k1_pay1 (F := F) w2 w3 w4 w5 w6 w7 w8
    = up 236#32 concatenates_S512x512_S512x512_S1024x512_d0 rotates_S1024x512_d0
        (up 118#32 concatenates_S256x512_S256x512_S512x512_d0 rotates_S512x512_d0
        (up 59#32 concatenates_S128x512_S128x512_S256x512_d0 rotates_S256x512_d0
        (up 30#32 concatenates_S64x512_S64x512_S128x512_d0 rotates_S128x512_d0
        (up 15#32 concatenates_S32x512_S32x512_S64x512_d0 rotates_S64x512_d0
        (up 8#32 concatenates_S16x512_S16x512_S32x512_d0 rotates_S32x512_d0 (dynamicRotate 0 4#32 none w2 rotates_S16x512_d0) w3) w4) w5) w6) w7) w8 := rfl

theorem pay2_eq (v : S1024x512.Idx → Elt F .f32) : k1_pay2 (F := F) v w9 471#32
    = shapeCast S1x2048x512 (up 471#32 concatenates_S1024x512_S1024x512_S2048x512_d0 rotates_S2048x512_d0 v w9) shapeCasts_S2048x512_S1x2048x512 := rfl

theorem stepVal1_row (a : Fin 8 → Nat) (h0 : (4 + a 0) % 16 = 0) (h1 : (8 + a 1) % 32 = 0) (h2 : (15 + a 2) % 64 = 0) (h3 : (30 + a 3) % 128 = 0)
    (h4 : (59 + a 4) % 256 = 0) (h5 : (118 + a 5) % 512 = 0) (h6 : (236 + a 6) % 1024 = 0) (h7 : (471 + a 7) % 2048 = 0)
    (y : Nat) (x : Fin 512) :
    stepVal1 w2 w3 w4 w5 w6 w7 w8 w9 (ix2 (Fin.ofNat 2048 y) x) = rowSum a w2 w3 w4 w5 w6 w7 w8 w9 y x := by
  unfold stepVal1
  rw [pay2_eq, pay1_eq, cast_back]
  unfold rowSum sum8
  refine up_row rfl 471#32 (a 7) h7 _ _ _ _ y x ?_
  refine up_row rfl 236#32 (a 6) h6 _ _ _ _ y x ?_
  refine up_row rfl 118#32 (a 5) h5 _ _ _ _ y x ?_
  refine up_row rfl 59#32 (a 4) h4 _ _ _ _ y x ?_
  refine up_row rfl 30#32 (a 3) h3 _ _ _ _ y x ?_
  refine up_row rfl 15#32 (a 2) h2 _ _ _ _ y x ?_
  refine up_row rfl 8#32 (a 1) h1 _ _ _ _ y x ?_
  exact rotate_row 4#32 (a 0) h0 w2 rotates_S16x512_d0 y x
end

end Cert.KernelIdeal.Own

end
-- ==== Proof.Value.Kernel.lean ====
/-
  What the program's result holds, element by element: the sum over the eight tables of row (t + offset) modulo the
  table's length, whichever of the two pipelines ran.
-/
module

public import proofs.«01_k».proof.Proof.Value.Steps
public import Idealize.ShloMosaic.Lib.StableHlo.ReadAt

@[expose] public section

set_option maxRecDepth 16384

noncomputable section

namespace Cert.KernelIdeal.Own

open Cert.KernelIdeal Cert.KernelIdeal.Gen Cert.Value
open Idealize.ShloMosaic hiding ix1 ix2
open Idealize.ShloMosaic.ValueIdx
open Idealize.ShloMosaic.StableHlo (after)

variable {F : FTy → Type} [FloatOps F] (m : (ℓ : Loc nD τ sig) → Buf (Elt F) ℓ)

/-! ### The host's words -/

theorem flat_eq : (opss (F := F)).flatten = hostOps0 ++ (hostOps0_1 ++ hostOps0_2) := rfl

set_option maxHeartbeats 2000000 in
/-- The table of offsets modulo the lengths, entry by entry. -/
theorem table_word (c : Dev nD) (i : S8.Idx) :
    (hostV m c (Proc.devRef .tc main_v0 : DevRef τ sig) : S8.Idx → BitVec 32) i
      = rem2 ((m (c, Proc.devRef .tc main_arg1) : S8.Idx → BitVec 32) i) (lit0 (S8.rowMajor i)) := by
  unfold hostV
  rw [flat_eq]
  simp only [hostOps0, hostOps0_1, hostOps0_2, List.cons_append, List.nil_append]
  after_reads_simp
  simp -implicitDefEqProofs only [StableHlo.TRef.toBuf, StableHlo.TRef.ofBuf, cast_cast, cast_eq]
  clean_types
  exact rem2_at _ _ _ _ _ (lit0 (S8.rowMajor i)) i rfl rfl rfl rfl

set_option maxHeartbeats 2000000 in
/-- The launch's test: every entry against the value the second pipeline is written for. -/
theorem test_word (c : Dev nD) :
    (hostV m c (Proc.devRef .tc main_v2 : DevRef τ sig) : S_.Idx → BitVec 1)
      = Host.reduce IntOp.andi (cmpi .eq (hostV m c (Proc.devRef .tc main_v0 : DevRef τ sig) : S8.Idx → BitVec 32) (fun i => lit1 (S8.rowMajor i)))
          (constantI S_ 1 1#1) reducesTo_S8_S_d0 h_S_ := by
  unfold hostV
  rw [flat_eq, ← List.append_assoc, StableHlo.after_append]
  generalize hW : after (hostOps0 ++ hostOps0_1) (launchV m c) = W
  have h1 : (W (Proc.devRef .tc main_c_0 : DevRef τ sig) : S8.Idx → BitVec 32) = fun i => lit1 (S8.rowMajor i) := by
    rw [← hW]
    simp only [hostOps0, hostOps0_1, List.cons_append, List.nil_append]
    after_reads_simp
    rfl
  simp only [hostOps0_2]
  after_reads_simp
  rw [h1]
  rfl

/-- The numbers the eight offsets hold, read unsigned. -/
def off (c : Dev nD) (k : Fin 8) : Nat := ((m (c, Proc.devRef .tc main_arg1) : S8.Idx → BitVec 32) (ix8 k)).toNat

/-- The lengths, and the values that the second pipeline is written for, as the launch's literals hold them. -/
theorem lits : ∀ k : Fin 8, lit0 (S8.rowMajor (ix8 k)) = BitVec.ofNat 32 (2 ^ (4 + k.val))
    ∧ lit1 (S8.rowMajor (ix8 k)) = (![12#32, 24#32, 49#32, 98#32, 197#32, 394#32, 788#32, 1577#32] : Fin 8 → BitVec 32) k := by decide +kernel

theorem cyc_pow : ∀ k : Fin 8, Cyc (2 ^ (4 + k.val)) := by decide

/-- The table's entry is the offset modulo the length. -/
theorem table_toNat (c : Dev nD) (k : Fin 8) :
    ((hostV m c (Proc.devRef .tc main_v0 : DevRef τ sig) : S8.Idx → BitVec 32) (ix8 k)).toNat = off m c k % 2 ^ (4 + k.val) := by
  rw [table_word, (lits k).1, rem2_eq _ (cyc_pow k), fmod_toNat _ _ (cyc_pow k)]
  rfl

/-- Where the branch word chooses the second pipeline, the table is the one it is written for. -/
theorem table_fixed (c : Dev nD) (h : HostLoop.branch (word m c) 1 ≠ 0) (k : Fin 8) :
    off m c k % 2 ^ (4 + k.val) = ((![12#32, 24#32, 49#32, 98#32, 197#32, 394#32, 788#32, 1577#32] : Fin 8 → BitVec 32) k).toNat := by
  have hb : (hostV m c (Proc.devRef .tc main_v2 : DevRef τ sig) : S_.Idx → BitVec 1) HostLoop.idx0 = 1#1 := by
    rcases BitVec.eq_zero_or_eq_one ((hostV m c (Proc.devRef .tc main_v2 : DevRef τ sig) : S_.Idx → BitVec 1) HostLoop.idx0) with e | e
    · refine absurd ?_ h
      have : word m c = 0#32 := by
        show BitVec.setWidth 32 ((hostV m c (Proc.devRef .tc main_v2 : DevRef τ sig) : S_.Idx → BitVec 1) HostLoop.idx0) = 0#32
        rw [e]; rfl
      rw [this]; rfl
    · exact e
  rw [test_word] at hb
  have hk := Host.reduce_andi_eq_one _ _ _ _ _ hb (ix8 k) (funext fun a => a.elim0)
  have he := IntOp.cmpi_eq.1 hk
  rw [← table_toNat, he]
  exact congrArg BitVec.toNat (lits k).2

/-! ### The blocks -/

/-- An element of the `t`-th block of a table's columns sits in the table in the same row, at column `512 t` plus its own. -/
theorem place {n : Nat} (ix : Fin 2 → Nat) (t : Nat) (h : ix 0 = 0 ∧ ix 1 = t) (r : Fin n) (x : Fin 512) (j : Fin 2048) (hj : j.val = 512 * t + x.val) :
    ∀ b : Fin 2, ix b * (![n, 512] : Fin 2 → Nat) b + (ix2 r x b).val = (ix2 r j b).val
  | ⟨0, _⟩ => by show ix 0 * n + r.val = r.val; rw [h.1]; omega
  | ⟨1, _⟩ => by show ix 1 * 512 + x.val = j.val; rw [h.2]; omega

theorem tr0 : ∀ t : Fin grid0.N,
    (cc0_transform_0 (grid0.coords t) 0 = 0 ∧ cc0_transform_0 (grid0.coords t) 1 = t.val)
    ∧ (cc0_transform_1 (grid0.coords t) 0 = 0 ∧ cc0_transform_1 (grid0.coords t) 1 = t.val)
    ∧ (cc0_transform_2 (grid0.coords t) 0 = 0 ∧ cc0_transform_2 (grid0.coords t) 1 = t.val)
    ∧ (cc0_transform_3 (grid0.coords t) 0 = 0 ∧ cc0_transform_3 (grid0.coords t) 1 = t.val)
    ∧ (cc0_transform_4 (grid0.coords t) 0 = 0 ∧ cc0_transform_4 (grid0.coords t) 1 = t.val)
    ∧ (cc0_transform_5 (grid0.coords t) 0 = 0 ∧ cc0_transform_5 (grid0.coords t) 1 = t.val)
    ∧ (cc0_transform_6 (grid0.coords t) 0 = 0 ∧ cc0_transform_6 (grid0.coords t) 1 = t.val)
    ∧ (cc0_transform_7 (grid0.coords t) 0 = 0 ∧ cc0_transform_7 (grid0.coords t) 1 = t.val) := by decide +kernel
theorem tr1 : ∀ t : Fin grid1.N,
    (cc1_transform_0 (grid1.coords t) 0 = 0 ∧ cc1_transform_0 (grid1.coords t) 1 = t.val)
    ∧ (cc1_transform_1 (grid1.coords t) 0 = 0 ∧ cc1_transform_1 (grid1.coords t) 1 = t.val)
    ∧ (cc1_transform_2 (grid1.coords t) 0 = 0 ∧ cc1_transform_2 (grid1.coords t) 1 = t.val)
    ∧ (cc1_transform_3 (grid1.coords t) 0 = 0 ∧ cc1_transform_3 (grid1.coords t) 1 = t.val)
    ∧ (cc1_transform_4 (grid1.coords t) 0 = 0 ∧ cc1_transform_4 (grid1.coords t) 1 = t.val)
    ∧ (cc1_transform_5 (grid1.coords t) 0 = 0 ∧ cc1_transform_5 (grid1.coords t) 1 = t.val)
    ∧ (cc1_transform_6 (grid1.coords t) 0 = 0 ∧ cc1_transform_6 (grid1.coords t) 1 = t.val)
    ∧ (cc1_transform_7 (grid1.coords t) 0 = 0 ∧ cc1_transform_7 (grid1.coords t) 1 = t.val) := by decide +kernel

/-- The tables at launch, read by the blocks of either pipeline. -/
theorem arg_kept (c : Dev nD) (r : Ref sig .tc) (h : r ∉ main_v3 :: hostW) : memOf (readV m) (c, Proc.devRef .tc r) = m (c, Proc.devRef .tc r) := by
  simp only [List.mem_cons, not_or] at h
  exact (readV_of m c r h.1).trans (hostV_of m c r h.2)

/-- Element `y` of the sum over the eight tables of row `y 0 + offset`, modulo the table's length. -/
def total (c : Dev nD) (y : S8192x2048.Idx) : F .f32 :=
  sum8 (F := F)
    ((m (c, Proc.devRef .tc main_arg2) : S16x2048.Idx → Elt F .f32) (ix2 (Fin.ofNat 16 ((y 0).val + off m c 0)) (y 1)))
    ((m (c, Proc.devRef .tc main_arg3) : S32x2048.Idx → Elt F .f32) (ix2 (Fin.ofNat 32 ((y 0).val + off m c 1)) (y 1)))
    ((m (c, Proc.devRef .tc main_arg4) : S64x2048.Idx → Elt F .f32) (ix2 (Fin.ofNat 64 ((y 0).val + off m c 2)) (y 1)))
    ((m (c, Proc.devRef .tc main_arg5) : S128x2048.Idx → Elt F .f32) (ix2 (Fin.ofNat 128 ((y 0).val + off m c 3)) (y 1)))
    ((m (c, Proc.devRef .tc main_arg6) : S256x2048.Idx → Elt F .f32) (ix2 (Fin.ofNat 256 ((y 0).val + off m c 4)) (y 1)))
    ((m (c, Proc.devRef .tc main_arg7) : S512x2048.Idx → Elt F .f32) (ix2 (Fin.ofNat 512 ((y 0).val + off m c 5)) (y 1)))
    ((m (c, Proc.devRef .tc main_arg8) : S1024x2048.Idx → Elt F .f32) (ix2 (Fin.ofNat 1024 ((y 0).val + off m c 6)) (y 1)))
    ((m (c, Proc.devRef .tc main_arg9) : S2048x2048.Idx → Elt F .f32) (ix2 (Fin.ofNat 2048 ((y 0).val + off m c 7)) (y 1)))

theorem sum8_congr {v0 v1 v2 v3 v4 v5 v6 v7 w0 w1 w2 w3 w4 w5 w6 w7 : F .f32} (h0 : v0 = w0) (h1 : v1 = w1) (h2 : v2 = w2) (h3 : v3 = w3)
    (h4 : v4 = w4) (h5 : v5 = w5) (h6 : v6 = w6) (h7 : v7 = w7) : sum8 v0 v1 v2 v3 v4 v5 v6 v7 = sum8 w0 w1 w2 w3 w4 w5 w6 w7 := by
  subst h0 h1 h2 h3 h4 h5 h6 h7; rfl

/-- A table read through its `t`-th block of columns, the block's embedding given by its coordinates. -/
theorem read_place {n : Nat} {X X' : (⟨2, ![n, 2048]⟩ : Shape).Idx → Elt F .f32} (hX : X = X')
    (e : (⟨2, ![n, 512]⟩ : Shape).Idx → (⟨2, ![n, 2048]⟩ : Shape).Idx) (ix : Fin 2 → Nat)
    (he : ∀ y (b : Fin 2), (e y b).val = ix b * (![n, 512] : Fin 2 → Nat) b + (y b).val)
    (t : Nat) (h : ix 0 = 0 ∧ ix 1 = t) (r : Fin n) (x : Fin 512) (j : Fin 2048) (hj : j.val = 512 * t + x.val) : X (e (ix2 r x)) = X' (ix2 r j) :=
  (congrArg X (funext fun b => Fin.ext ((he (ix2 r x) b).trans (place ix t h r x j hj b)))).trans (congrFun hX _)

set_option maxHeartbeats 4000000 in
/-- A grid point's block in the first pipeline, at an element of the result. -/
theorem out0_row (a) (c : Dev nD) (y : S8192x2048.Idx)
    (hrow : ∀ (t : Fin grid0.N) (r : Nat) (x : Fin 512), sv0 a (memOf (readV m)) c t (ix2 (Fin.ofNat 2048 r) x)
      = rowSum (off m c) (iblk0 a (memOf (readV m)) c 0 t) (iblk0 a (memOf (readV m)) c 1 t) (iblk0 a (memOf (readV m)) c 2 t) (iblk0 a (memOf (readV m)) c 3 t)
          (iblk0 a (memOf (readV m)) c 4 t) (iblk0 a (memOf (readV m)) c 5 t) (iblk0 a (memOf (readV m)) c 6 t) (iblk0 a (memOf (readV m)) c 7 t) r x) :
    (G0 a (memOf (readV m)) c : S8192x2048.Idx → Elt F .f32) y = total m c y := by
  have hy : (y 1).val < 2048 := (y 1).isLt
  have hj : (y 1).val = 512 * ((y 1).val / 512) + (y 1).val % 512 := by omega
  let t : Fin grid0.N := (⟨(y 1).val / 512, by omega⟩ : Fin 4).cast N_0.symm
  let x : Fin 512 := ⟨(y 1).val % 512, by omega⟩
  refine Eq.trans ?_ ((hrow t (y 0).val x).trans ?_)
  · unfold G0 outVal
    refine congrArg (sv0 a (memOf (readV m)) c _) (funext fun b => ?_)
    match b with
    | ⟨0, _⟩ => rfl
    | ⟨1, _⟩ => rfl
  · exact sum8_congr
      (read_place (n := 16) (arg_kept m c main_arg2 (by decide)) (((cfg0 a).win 0).rect t).emb (cc0_transform_0 (grid0.coords t)) (Pipeline.Window.rect_emb_val ((cfg0 a).win 0) t) t.val (tr0 t).1 _ x (y 1) hj)
      (read_place (n := 32) (arg_kept m c main_arg3 (by decide)) (((cfg0 a).win 1).rect t).emb (cc0_transform_1 (grid0.coords t)) (Pipeline.Window.rect_emb_val ((cfg0 a).win 1) t) t.val (tr0 t).2.1 _ x (y 1) hj)
      (read_place (n := 64) (arg_kept m c main_arg4 (by decide)) (((cfg0 a).win 2).rect t).emb (cc0_transform_2 (grid0.coords t)) (Pipeline.Window.rect_emb_val ((cfg0 a).win 2) t) t.val (tr0 t).2.2.1 _ x (y 1) hj)
      (read_place (n := 128) (arg_kept m c main_arg5 (by decide)) (((cfg0 a).win 3).rect t).emb (cc0_transform_3 (grid0.coords t)) (Pipeline.Window.rect_emb_val ((cfg0 a).win 3) t) t.val (tr0 t).2.2.2.1 _ x (y 1) hj)
      (read_place (n := 256) (arg_kept m c main_arg6 (by decide)) (((cfg0 a).win 4).rect t).emb (cc0_transform_4 (grid0.coords t)) (Pipeline.Window.rect_emb_val ((cfg0 a).win 4) t) t.val (tr0 t).2.2.2.2.1 _ x (y 1) hj)
      (read_place (n := 512) (arg_kept m c main_arg7 (by decide)) (((cfg0 a).win 5).rect t).emb (cc0_transform_5 (grid0.coords t)) (Pipeline.Window.rect_emb_val ((cfg0 a).win 5) t) t.val (tr0 t).2.2.2.2.2.1 _ x (y 1) hj)
      (read_place (n := 1024) (arg_kept m c main_arg8 (by decide)) (((cfg0 a).win 6).rect t).emb (cc0_transform_6 (grid0.coords t)) (Pipeline.Window.rect_emb_val ((cfg0 a).win 6) t) t.val (tr0 t).2.2.2.2.2.2.1 _ x (y 1) hj)
      (read_place (n := 2048) (arg_kept m c main_arg9 (by decide)) (((cfg0 a).win 7).rect t).emb (cc0_transform_7 (grid0.coords t)) (Pipeline.Window.rect_emb_val ((cfg0 a).win 7) t) t.val (tr0 t).2.2.2.2.2.2.2 _ x (y 1) hj)

set_option maxHeartbeats 4000000 in
/-- A grid point's block in the second pipeline, at an element of the result. -/
theorem out1_row (a) (c : Dev nD) (y : S8192x2048.Idx)
    (hrow : ∀ (t : Fin grid1.N) (r : Nat) (x : Fin 512), sv1 a (memOf (readV m)) c t (ix2 (Fin.ofNat 2048 r) x)
      = rowSum (off m c) (iblk1 a (memOf (readV m)) c 0 t) (iblk1 a (memOf (readV m)) c 1 t) (iblk1 a (memOf (readV m)) c 2 t) (iblk1 a (memOf (readV m)) c 3 t)
          (iblk1 a (memOf (readV m)) c 4 t) (iblk1 a (memOf (readV m)) c 5 t) (iblk1 a (memOf (readV m)) c 6 t) (iblk1 a (memOf (readV m)) c 7 t) r x) :
    (G1 a (memOf (readV m)) c : S8192x2048.Idx → Elt F .f32) y = total m c y := by
  have hy : (y 1).val < 2048 := (y 1).isLt
  have hj : (y 1).val = 512 * ((y 1).val / 512) + (y 1).val % 512 := by omega
  let t : Fin grid1.N := (⟨(y 1).val / 512, by omega⟩ : Fin 4).cast N_1.symm
  let x : Fin 512 := ⟨(y 1).val % 512, by omega⟩
  refine Eq.trans ?_ ((hrow t (y 0).val x).trans ?_)
  · unfold G1 outVal
    refine congrArg (sv1 a (memOf (readV m)) c _) (funext fun b => ?_)
    match b with
    | ⟨0, _⟩ => rfl
    | ⟨1, _⟩ => rfl
  · exact sum8_congr
      (read_place (n := 16) (arg_kept m c main_arg2 (by decide)) (((cfg1 a).win 0).rect t).emb (cc1_transform_0 (grid1.coords t)) (Pipeline.Window.rect_emb_val ((cfg1 a).win 0) t) t.val (tr1 t).1 _ x (y 1) hj)
      (read_place (n := 32) (arg_kept m c main_arg3 (by decide)) (((cfg1 a).win 1).rect t).emb (cc1_transform_1 (grid1.coords t)) (Pipeline.Window.rect_emb_val ((cfg1 a).win 1) t) t.val (tr1 t).2.1 _ x (y 1) hj)
      (read_place (n := 64) (arg_kept m c main_arg4 (by decide)) (((cfg1 a).win 2).rect t).emb (cc1_transform_2 (grid1.coords t)) (Pipeline.Window.rect_emb_val ((cfg1 a).win 2) t) t.val (tr1 t).2.2.1 _ x (y 1) hj)
      (read_place (n := 128) (arg_kept m c main_arg5 (by decide)) (((cfg1 a).win 3).rect t).emb (cc1_transform_3 (grid1.coords t)) (Pipeline.Window.rect_emb_val ((cfg1 a).win 3) t) t.val (tr1 t).2.2.2.1 _ x (y 1) hj)
      (read_place (n := 256) (arg_kept m c main_arg6 (by decide)) (((cfg1 a).win 4).rect t).emb (cc1_transform_4 (grid1.coords t)) (Pipeline.Window.rect_emb_val ((cfg1 a).win 4) t) t.val (tr1 t).2.2.2.2.1 _ x (y 1) hj)
      (read_place (n := 512) (arg_kept m c main_arg7 (by decide)) (((cfg1 a).win 5).rect t).emb (cc1_transform_5 (grid1.coords t)) (Pipeline.Window.rect_emb_val ((cfg1 a).win 5) t) t.val (tr1 t).2.2.2.2.2.1 _ x (y 1) hj)
      (read_place (n := 1024) (arg_kept m c main_arg8 (by decide)) (((cfg1 a).win 6).rect t).emb (cc1_transform_6 (grid1.coords t)) (Pipeline.Window.rect_emb_val ((cfg1 a).win 6) t) t.val (tr1 t).2.2.2.2.2.2.1 _ x (y 1) hj)
      (read_place (n := 2048) (arg_kept m c main_arg9 (by decide)) (((cfg1 a).win 7).rect t).emb (cc1_transform_7 (grid1.coords t)) (Pipeline.Window.rect_emb_val ((cfg1 a).win 7) t) t.val (tr1 t).2.2.2.2.2.2.2 _ x (y 1) hj)

/-- What the result holds. -/
theorem final_total (c : Dev nD) (y : S8192x2048.Idx) :
    (finalV m c (Proc.devRef .tc main_v4 : DevRef τ sig) : S8192x2048.Idx → Elt F .f32) y = total m c y := by
  obtain rfl : c = 0 := Subsingleton.elim _ _
  by_cases h : HostLoop.branch (word m 0) 1 = 0
  · rw [finalV_out0 m 0 h]
    refine out0_row m _ 0 y fun t r x => ?_
    have ht : ∀ k : Fin 8, ((tab0 (adm (readV m) 0) : S8.Idx → BitVec 32) (ix8 k)).toNat = off m 0 k % 2 ^ (4 + k.val) := fun k =>
      (congrArg (fun f : S8.Idx → BitVec 32 => (f (ix8 k)).toNat) (readV_of m 0 main_v0 (by decide))).trans (table_toNat m 0 k)
    exact stepVal0_row _ _ _ _ _ _ _ _ _ _ (amt_off _ _ (cyc_pow 0) (ht 0)) (amt_off _ _ (cyc_pow 1) (ht 1)) (amt_off _ _ (cyc_pow 2) (ht 2)) (amt_off _ _ (cyc_pow 3) (ht 3)) (amt_off _ _ (cyc_pow 4) (ht 4)) (amt_off _ _ (cyc_pow 5) (ht 5)) (amt_off _ _ (cyc_pow 6) (ht 6)) (amt_off _ _ (cyc_pow 7) (ht 7)) r x
  · rw [finalV_out1 m 0 h]
    refine out1_row m _ 0 y fun t r x => ?_
    have ht := table_fixed m 0 h
    refine stepVal1_row _ _ _ _ _ _ _ _ _ (?_) (?_) (?_) (?_) (?_) (?_) (?_) (?_) r x
    · have e : off m 0 0 % 16 = 12 := ht 0
      omega
    · have e : off m 0 1 % 32 = 24 := ht 1
      omega
    · have e : off m 0 2 % 64 = 49 := ht 2
      omega
    · have e : off m 0 3 % 128 = 98 := ht 3
      omega
    · have e : off m 0 4 % 256 = 197 := ht 4
      omega
    · have e : off m 0 5 % 512 = 394 := ht 5
      omega
    · have e : off m 0 6 % 1024 = 788 := ht 6
      omega
    · have e : off m 0 7 % 2048 = 1577 := ht 7
      omega

end Cert.KernelIdeal.Own

end
-- ==== Proof.Value.Takes.lean ====
/-
  What the reference's table look-up reads at an element, with no program named: an index array made by a floor-modulo,
  wrapped where negative, tested against the table's range, and a gather of rows under that test.
-/
module

public import proofs.«01_k».proof.Proof.Value.Rows

@[expose] public section

set_option maxRecDepth 16384

noncomputable section

namespace Cert.Value

open Idealize.ShloMosaic Idealize.ShloMosaic.ValueIdx Idealize.ShloMosaic.Routing

/-- The elements of an array of one column are its rows. -/
theorem column_idx (i : (shape2 8192 1).Idx) : ∃ t : Fin 8192, i = ix2 t (0 : Fin 1) := by
  refine ⟨⟨(i 0).val, (i 0).isLt⟩, funext fun b => ?_⟩
  match b with
  | ⟨0, _⟩ => rfl
  | ⟨1, _⟩ => exact Fin.ext (by have : (i 1).val < 1 := (i 1).isLt; show (i 1).val = 0; omega)

/-- An array spread over one column, at a row. -/
theorem spread_at {α : Type} (h : (shape1 8192).BroadcastsInDim (shape2 8192 1) (![0] : Fin 1 → Fin 2)) (x : (shape1 8192).Idx → α) (t : Fin 8192) :
    broadcastInDim (shape2 8192 1) ![0] h x (ix2 t (0 : Fin 1)) = x (ix1 t) := by
  unfold broadcastInDim
  refine congrArg x (funext fun a => ?_)
  match a with
  | ⟨0, _⟩ => rfl

/-- A row number below a table's length is not wrapped. -/
theorem wrap_at (R z w : IVec (shape1 8192) 32) (t : Fin 8192) (hz : z (ix1 t) = 0#32) (hR : (R (ix1 t)).toNat < 2048) :
    select (cmpi .slt R z) (addi R w) R (ix1 t) = R (ix1 t) := by
  show Scalar.select (BitVec.ofBool (BitVec.slt (R (ix1 t)) (z (ix1 t)))) _ (R (ix1 t)) = R (ix1 t)
  have hm : (R (ix1 t)).msb = false := by rw [BitVec.msb_eq_false_iff_two_mul_lt]; omega
  rw [hz, BitVec.slt_zero_eq_msb, hm]
  rfl

/-- The sum of a row number and one of the eight offsets. -/
theorem shifted_at (p : IVec (shape1 8192) 32) (q : IVec (shape1 8) 32) (i : Nat) (hi : i < 8)
    (hs : (shape1 8).Slices ![i] (shape1 1)) (hc : (shape1 1).ShapeCasts ⟨0, ![]⟩) (hb : (⟨0, ![]⟩ : Shape).BroadcastsInDim (shape1 8192) (![] : Fin 0 → Fin 1)) (t : Fin 8192) :
    addi p (broadcastInDim (shape1 8192) ![] hb (shapeCast ⟨0, ![]⟩ (extractStridedSlice (shape1 1) ![i] q hs) hc)) (ix1 t)
      = p (ix1 t) + q (ix1 ⟨i, hi⟩) := by
  refine congrArg (fun v => p (ix1 t) + v) (congrArg q (funext fun a => Fin.ext ?_))
  match a with
  | ⟨0, _⟩ =>
    show i + _ = i
    have : ∀ j : Fin 1, j.val = 0 := by decide
    exact congrArg (i + ·) (this _)

/-- The look-up: the table's row at the index modulo the table's length. -/
theorem take_full {F : FTy → Type} {n : Nat} [NeZero n] (hn : Cyc n) (d : GatherDims (shape2 n 2048) (shape2 8192 1) (shape2 8192 2048))
    (hoff : d.offsetDims = [1]) (hcoll : d.collapsedSliceDims = [0]) (hob : d.operandBatchingDims = []) (hsim : d.startIndexMap = [0]) (hivd : d.indexVectorDim = 1)
    (W : FVec F (shape2 n 2048) .f32) (X N z z' z₂ w : IVec (shape1 8192) 32) (g : IVec (shape1 8192) 1)
    (hN : ∀ t, N (ix1 t) = Scalar.select (IntOp.cmpi .eq (BitVec.ofNat 32 n) 0#32) 1#32 (BitVec.ofNat 32 n))
    (hg : ∀ t, g (ix1 t) = IntOp.cmpi .slt (N (ix1 t)) 0#32) (hz : ∀ t, z (ix1 t) = 0#32) (hz' : ∀ t, z' (ix1 t) = 0#32) (hz₂ : ∀ t, z₂ (ix1 t) = 0#32)
    (R : IVec (shape1 8192) 32)
    (hR : R = select (andi (cmpi .ne (cmpi .slt (Host.remsi X N) z) g) (cmpi .ne (Host.remsi X N) z')) (addi (Host.remsi X N) N) (Host.remsi X N))
    (hs : (shape1 8192).BroadcastsInDim (shape2 8192 1) (![0] : Fin 1 → Fin 2))
    (I : IVec (shape2 8192 1) 32) (hI : I = broadcastInDim (shape2 8192 1) ![0] hs (select (cmpi .slt R z₂) (addi R w) R))
    (Z H : IVec (shape2 8192 1) 32) (hZ : ∀ i, Z i = 0#32) (hH : ∀ i, H i = BitVec.ofNat 32 (n - 1))
    {u : Shape} (one : u.Idx → BitVec 1) (hu : 0 < u.numel) (hone : one (Shape.Idx.first hu) = 1#1)
    (hred : (shape2 8192 1).ReducesTo [1] (shape1 8192))
    (hb : (shape1 8192).BroadcastsInDim (shape2 8192 2048) (![0] : Fin 1 → Fin 2)) (nan : FVec F (shape2 8192 2048) .f32) (t : Fin 8192) (j : Fin 2048) :
    select (broadcastInDim (shape2 8192 2048) ![0] hb (Host.reduce IntOp.andi (andi (cmpi .sge I Z) (cmpi .sle I H)) one hred hu)) (Host.gather d W I) nan (ix2 t j)
      = W (ix2 (Fin.ofNat n (X (ix1 t)).toNat) j) := by
  have hn' : 0 < n ∧ n ≤ 2048 := by omega
  have hRt : ∀ t, (R (ix1 t)).toNat = (X (ix1 t)).toNat % n := fun t => by
    rw [hR, rem2_at X N z z' g _ (ix1 t) (hN t) (hg t) (hz t) (hz' t), rem2_eq _ hn, fmod_toNat _ _ hn]
  have hlt : ∀ t, (X (ix1 t)).toNat % n < n := fun t => Nat.mod_lt _ hn'.1
  have hIt : ∀ t, I (ix2 t (0 : Fin 1)) = BitVec.ofNat 32 ((X (ix1 t)).toNat % n) := fun t => by
    have := hlt t
    rw [hI, spread_at, wrap_at R z₂ w t (hz₂ t) (by rw [hRt]; omega), ← hRt, BitVec.ofNat_toNat, BitVec.setWidth_eq]
  have hint : ∀ k : Nat, k < 2048 → (BitVec.ofNat 32 k).toInt = k := fun k hk => by
    rw [BitVec.toInt_eq_toNat_of_lt (by rw [BitVec.toNat_ofNat]; omega), BitVec.toNat_ofNat]; omega
  have hin : ∀ i, andi (cmpi .sge I Z) (cmpi .sle I H) i = 1#1 := fun i => by
    obtain ⟨t, rfl⟩ := column_idx i
    have := hlt t
    refine IntOp.andi_eq_one.2 ⟨IntOp.cmpi_sge.2 ?_, IntOp.cmpi_sle.2 ?_⟩
    · rw [hZ, hIt, hint ((X (ix1 t)).toNat % n) (by omega)]; exact Int.natCast_nonneg _
    · rw [hH, hIt, hint _ (by omega), hint _ (by omega)]; omega
  have hmask : broadcastInDim (shape2 8192 2048) ![0] hb (Host.reduce IntOp.andi (andi (cmpi .sge I Z) (cmpi .sle I H)) one hred hu) = fun _ => 1#1 :=
    funext fun _ => Host.reduce_andi_one _ _ _ _ _ hone hin
  rw [hmask]
  exact gather_row d hoff hcoll hob hsim hivd W I t j (Fin.ofNat n (X (ix1 t)).toNat) (hIt t) (by omega)

/-- The row read depends on the word alone. -/
theorem rows_eq {α : Type} {n : Nat} [NeZero n] (W : (shape2 n 2048).Idx → α) (j : Fin 2048) {a b : BitVec 32} (h : a = b) :
    W (ix2 (Fin.ofNat n a.toNat) j) = W (ix2 (Fin.ofNat n b.toNat) j) := by rw [h]

end Cert.Value

end
-- ==== Proof.Value.Reference.lean ====
/-
  What the reference computes, element by element: zero, and the eight tables' rows at (position + offset) modulo the
  table's length added to it in order.
-/
module

public import proofs.«01_k».proof.Proof.Gen.ReferenceIdeal.Run
public import proofs.«01_k».proof.Proof.Value.Takes

@[expose] public section

set_option maxRecDepth 16384

noncomputable section

namespace Cert.ReferenceIdeal.Own

open Cert.ReferenceIdeal Cert.ReferenceIdeal.Gen Cert.ReferenceIdeal.Value Cert.Value
open Idealize.ShloMosaic Idealize.ShloMosaic.StableHlo
open Idealize.ShloMosaic.ValueIdx Idealize.ShloMosaic.TcCoe

variable {F : FTy → Type} [FloatOps F] (V0 : Valuation τ sig (Elt F))

/-- The sum of a position and an offset, as a word. -/
def at_ (t : Fin 8192) (k : Fin 8) : BitVec 32 :=
  let p : S8192.Idx → BitVec 32 := V0 (Proc.devRef .tc main_arg0)
  let q : S8.Idx → BitVec 32 := V0 (Proc.devRef .tc main_arg1)
  p (ix1 t) + q (ix1 k)

/-- What the program leaves in its result. -/
abbrev result : S8192x2048.Idx → Elt F .f32 :=
  addf (res_main_v49 V0) (select (broadcastInDim S8192x2048 ![0] bcast_S8192_S8192x2048_0 (Host.reduce IntOp.andi (andi (cmpi .sge (res_main_call15_v5 V0) (broadcastInDim S8192x1 ![] bcast_S_S8192x1 (constantI S_ 32 0#32))) (cmpi .sle (res_main_call15_v5 V0) (broadcastInDim S8192x1 ![0, 1] bcast_S1x1_S8192x1_0_1 (broadcastInDim S1x1 ![1] bcast_S1_S1x1_1 (constantI S1 32 2047#32))))) (constantI S_ 1 1#1) reducesTo_S8192x1_S8192_d1 h_S_)) (Host.gather gather_S2048x2048_S8192x1_S8192x2048_1_0_n_n_0_1_12048 (V0 (Proc.devRef .tc main_arg9)) (res_main_call15_v5 V0)) (broadcastInDim S8192x2048 ![] bcast_S_S8192x2048 (constant S_ .f32 0x7FC00000#32)))

set_option maxHeartbeats 4000000 in
/-- An element of the result is zero plus the eight tables' rows, row (position + offset) modulo the length of each. -/
theorem result_at (t : Fin 8192) (j : Fin 2048) :
    result V0 (ix2 t j) = sum8 (F := F)
      (FloatOps.addf (FloatOps.ofBits .f32 0x00000000#32) ((V0 (Proc.devRef .tc main_arg2) : S16x2048.Idx → Elt F .f32) (ix2 (Fin.ofNat 16 (at_ V0 t 0).toNat) j)))
      ((V0 (Proc.devRef .tc main_arg3) : S32x2048.Idx → Elt F .f32) (ix2 (Fin.ofNat 32 (at_ V0 t 1).toNat) j))
      ((V0 (Proc.devRef .tc main_arg4) : S64x2048.Idx → Elt F .f32) (ix2 (Fin.ofNat 64 (at_ V0 t 2).toNat) j))
      ((V0 (Proc.devRef .tc main_arg5) : S128x2048.Idx → Elt F .f32) (ix2 (Fin.ofNat 128 (at_ V0 t 3).toNat) j))
      ((V0 (Proc.devRef .tc main_arg6) : S256x2048.Idx → Elt F .f32) (ix2 (Fin.ofNat 256 (at_ V0 t 4).toNat) j))
      ((V0 (Proc.devRef .tc main_arg7) : S512x2048.Idx → Elt F .f32) (ix2 (Fin.ofNat 512 (at_ V0 t 5).toNat) j))
      ((V0 (Proc.devRef .tc main_arg8) : S1024x2048.Idx → Elt F .f32) (ix2 (Fin.ofNat 1024 (at_ V0 t 6).toNat) j))
      ((V0 (Proc.devRef .tc main_arg9) : S2048x2048.Idx → Elt F .f32) (ix2 (Fin.ofNat 2048 (at_ V0 t 7).toNat) j)) := by
  unfold result res_main_v49 sum8
  refine congrArg₂ FloatOps.addf ?_ ((take_full (n := 2048) (by decide) gather_S2048x2048_S8192x1_S8192x2048_1_0_n_n_0_1_12048 rfl rfl rfl rfl rfl _ _ _ _ _ _ _ _ (fun _ => rfl) (fun _ => rfl) (fun _ => rfl) (fun _ => rfl) (fun _ => rfl) (res_main_v54 V0) rfl _ (res_main_call15_v5 V0) rfl _ _ (fun _ => rfl) (fun _ => rfl) _ _ rfl _ _ _ t j).trans (rows_eq _ j (shifted_at _ _ 7 (by decide) _ _ _ t)))
  refine congrArg₂ FloatOps.addf ?_ ((take_full (n := 1024) (by decide) gather_S1024x2048_S8192x1_S8192x2048_1_0_n_n_0_1_12048 rfl rfl rfl rfl rfl _ _ _ _ _ _ _ _ (fun _ => rfl) (fun _ => rfl) (fun _ => rfl) (fun _ => rfl) (fun _ => rfl) (res_main_v47 V0) rfl _ (res_main_call13_v5 V0) rfl _ _ (fun _ => rfl) (fun _ => rfl) _ _ rfl _ _ _ t j).trans (rows_eq _ j (shifted_at _ _ 6 (by decide) _ _ _ t)))
  refine congrArg₂ FloatOps.addf ?_ ((take_full (n := 512) (by decide) gather_S512x2048_S8192x1_S8192x2048_1_0_n_n_0_1_12048 rfl rfl rfl rfl rfl _ _ _ _ _ _ _ _ (fun _ => rfl) (fun _ => rfl) (fun _ => rfl) (fun _ => rfl) (fun _ => rfl) (res_main_v40 V0) rfl _ (res_main_call11_v5 V0) rfl _ _ (fun _ => rfl) (fun _ => rfl) _ _ rfl _ _ _ t j).trans (rows_eq _ j (shifted_at _ _ 5 (by decide) _ _ _ t)))
  refine congrArg₂ FloatOps.addf ?_ ((take_full (n := 256) (by decide) gather_S256x2048_S8192x1_S8192x2048_1_0_n_n_0_1_12048 rfl rfl rfl rfl rfl _ _ _ _ _ _ _ _ (fun _ => rfl) (fun _ => rfl) (fun _ => rfl) (fun _ => rfl) (fun _ => rfl) (res_main_v33 V0) rfl _ (res_main_call9_v5 V0) rfl _ _ (fun _ => rfl) (fun _ => rfl) _ _ rfl _ _ _ t j).trans (rows_eq _ j (shifted_at _ _ 4 (by decide) _ _ _ t)))
  refine congrArg₂ FloatOps.addf ?_ ((take_full (n := 128) (by decide) gather_S128x2048_S8192x1_S8192x2048_1_0_n_n_0_1_12048 rfl rfl rfl rfl rfl _ _ _ _ _ _ _ _ (fun _ => rfl) (fun _ => rfl) (fun _ => rfl) (fun _ => rfl) (fun _ => rfl) (res_main_v26 V0) rfl _ (res_main_call7_v5 V0) rfl _ _ (fun _ => rfl) (fun _ => rfl) _ _ rfl _ _ _ t j).trans (rows_eq _ j (shifted_at _ _ 3 (by decide) _ _ _ t)))
  refine congrArg₂ FloatOps.addf ?_ ((take_full (n := 64) (by decide) gather_S64x2048_S8192x1_S8192x2048_1_0_n_n_0_1_12048 rfl rfl rfl rfl rfl _ _ _ _ _ _ _ _ (fun _ => rfl) (fun _ => rfl) (fun _ => rfl) (fun _ => rfl) (fun _ => rfl) (res_main_v19 V0) rfl _ (res_main_call5_v5 V0) rfl _ _ (fun _ => rfl) (fun _ => rfl) _ _ rfl _ _ _ t j).trans (rows_eq _ j (shifted_at _ _ 2 (by decide) _ _ _ t)))
  refine congrArg₂ FloatOps.addf ?_ ((take_full (n := 32) (by decide) gather_S32x2048_S8192x1_S8192x2048_1_0_n_n_0_1_12048 rfl rfl rfl rfl rfl _ _ _ _ _ _ _ _ (fun _ => rfl) (fun _ => rfl) (fun _ => rfl) (fun _ => rfl) (fun _ => rfl) (res_main_v12 V0) rfl _ (res_main_call3_v5 V0) rfl _ _ (fun _ => rfl) (fun _ => rfl) _ _ rfl _ _ _ t j).trans (rows_eq _ j (shifted_at _ _ 1 (by decide) _ _ _ t)))
  exact congrArg₂ FloatOps.addf rfl ((take_full (n := 16) (by decide) gather_S16x2048_S8192x1_S8192x2048_1_0_n_n_0_1_12048 rfl rfl rfl rfl rfl _ _ _ _ _ _ _ _ (fun _ => rfl) (fun _ => rfl) (fun _ => rfl) (fun _ => rfl) (fun _ => rfl) (res_main_v5 V0) rfl _ (res_main_call1_v5 V0) rfl _ _ (fun _ => rfl) (fun _ => rfl) _ _ rfl _ _ _ t j).trans (rows_eq _ j (shifted_at _ _ 0 (by decide) _ _ _ t)))

end Cert.ReferenceIdeal.Own

end
-- ==== Proof.Value.Main.lean ====
/-
  The kernel and the reference leave the same result, at the extended reals, where the positions count up from zero.
-/
module

public import proofs.«01_k».proof.Defs
public import proofs.«01_k».proof.Proof.Value.Kernel
public import proofs.«01_k».proof.Proof.Value.Reference
public import Idealize.ShloMosaic.PureOps.Ideal.Laws
public import proofs.«01_k».proof.Proof.Gen.Pre_positions_count_up

@[expose] public section

set_option maxRecDepth 16384

noncomputable section

namespace Cert.Proof

open Idealize.ShloMosaic hiding ix1 ix2
open Idealize.SL.Sem
open Idealize.ShloMosaic.ValueIdx (ix1 ix2)
open Cert.Value (Cyc sum8)

attribute [local instance] Cert.KernelIdeal.Gen.facts Cert.ReferenceIdeal.Gen.facts Cert.Pre_positions_count_up.Gen.facts

/-- The word that adds an offset to a position names the same row of a table as their sum does. -/
theorem same_row {n : Nat} [NeZero n] (hn : Cyc n) (t : Nat) (o : BitVec 32) :
    Fin.ofNat n (BitVec.ofNat 32 t + o).toNat = Fin.ofNat n (t + o.toNat) := by
  apply Fin.ext
  show (BitVec.ofNat 32 t + o).toNat % n = (t + o.toNat) % n
  rw [BitVec.toNat_add, BitVec.toNat_ofNat]
  rcases hn with h | h | h | h | h | h | h | h <;> subst h <;> omega

/-- Tables that are equal give the same row. -/
theorem same_entry {n : Nat} [NeZero n] (hn : Cyc n) {W' W : (⟨2, ![n, 2048]⟩ : Shape).Idx → EReal} (hW : W' = W)
    {p q' : BitVec 32} {q : Nat} (t : Fin 8192) (j : Fin 2048) (hp : p = BitVec.ofNat 32 t.val) (hq : q'.toNat = q) :
    W' (ix2 (Fin.ofNat n (p + q').toNat) j) = W (ix2 (Fin.ofNat n (t.val + q)) j) := by
  subst hW hp hq
  rw [same_row hn]

/-- Two sums of eight equal terms are equal, where the first of one sum has a zero before it. -/
theorem sum8_zero {v0 v1 v2 v3 v4 v5 v6 v7 u0 u1 u2 u3 u4 u5 u6 u7 : EReal} (h0 : v0 = u0) (h1 : v1 = u1) (h2 : v2 = u2)
    (h3 : v3 = u3) (h4 : v4 = u4) (h5 : v5 = u5) (h6 : v6 = u6) (h7 : v7 = u7) :
    sum8 (F := Ideal) (FloatOps.addf (F := Ideal) (φ := .f32) (FloatOps.ofBits (F := Ideal) .f32 0x00000000#32) v0) v1 v2 v3 v4 v5 v6 v7
      = sum8 (F := Ideal) u0 u1 u2 u3 u4 u5 u6 u7 := by
  subst h0 h1 h2 h3 h4 h5 h6 h7
  have h : FloatOps.addf (F := Ideal) (φ := .f32) (FloatOps.ofBits (F := Ideal) .f32 0x00000000#32) v0 = v0 := by
    show Ideal.ofBits .f32 0x00000000#32 + v0 = v0
    rw [Ideal.ofBits_zero_f32, zero_add]
  rw [h]

/-- From equal arguments, the positions counting up, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : ∀ t : Fin 8192, (m (c, Proc.devRef .tc Cert.KernelIdeal.main_arg0) : Cert.KernelIdeal.S8192.Idx → BitVec 32) (ix1 t) = BitVec.ofNat 32 t.val)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Own.result (F := Ideal) (StableHlo.launchContents m' c)
      = Cert.KernelIdeal.Own.finalV m c (Proc.devRef .tc Cert.KernelIdeal.main_v4) := by
  obtain ⟨h0, h1, h2, h3, h4, h5, h6, h7, h8, h9⟩ := h
  funext y
  have hy : y = ix2 (y 0) (y 1) := by funext a; fin_cases a <;> rfl
  have hp' : ∀ t : Fin 8192, (StableHlo.launchContents m' c (Proc.devRef .tc Cert.ReferenceIdeal.main_arg0) : Cert.KernelIdeal.S8192.Idx → BitVec 32) (ix1 t) = BitVec.ofNat 32 t.val :=
    fun t => (congrFun h0 (ix1 t)).trans (hp t)
  have hq : ∀ k : Fin 8, ((StableHlo.launchContents m' c (Proc.devRef .tc Cert.ReferenceIdeal.main_arg1) : Cert.KernelIdeal.S8.Idx → BitVec 32) (ix1 k)).toNat
      = Cert.KernelIdeal.Own.off m c k := fun k => by
    have e : (ix1 k : Cert.KernelIdeal.S8.Idx) = Cert.KernelIdeal.Own.ix8 k := by funext a; fin_cases a; rfl
    unfold Cert.KernelIdeal.Own.off
    rw [← e]
    exact congrArg BitVec.toNat (congrFun h1 (ix1 k))
  refine (congrArg (Cert.ReferenceIdeal.Own.result (F := Ideal) (StableHlo.launchContents m' c)) hy).trans ?_
  refine (Cert.ReferenceIdeal.Own.result_at (F := Ideal) (StableHlo.launchContents m' c) (y 0) (y 1)).trans ?_
  refine Eq.trans ?_ (Cert.KernelIdeal.Own.final_total m c y).symm
  unfold Cert.KernelIdeal.Own.total
  exact sum8_zero
    (same_entry (n := 16) (by decide) h2 (y 0) (y 1) (hp' (y 0)) (hq 0))
    (same_entry (n := 32) (by decide) h3 (y 0) (y 1) (hp' (y 0)) (hq 1))
    (same_entry (n := 64) (by decide) h4 (y 0) (y 1) (hp' (y 0)) (hq 2))
    (same_entry (n := 128) (by decide) h5 (y 0) (y 1) (hp' (y 0)) (hq 3))
    (same_entry (n := 256) (by decide) h6 (y 0) (y 1) (hp' (y 0)) (hq 4))
    (same_entry (n := 512) (by decide) h7 (y 0) (y 1) (hp' (y 0)) (hq 5))
    (same_entry (n := 1024) (by decide) h8 (y 0) (y 1) (hp' (y 0)) (hq 6))
    (same_entry (n := 2048) (by decide) h9 (y 0) (y 1) (hp' (y 0)) (hq 7))

/-- The kernel and the reference, from equal arguments whose positions count up, end with equal results. -/
theorem algebraic : Cert.algebraic_KernelIdeal_ReferenceIdeal_pre_positions_count_up := fun m g m' g' hpre hargs =>
  ⟨fun c => Cert.KernelIdeal.Own.finalV m c (Proc.devRef .tc Cert.KernelIdeal.main_v4),
    (θ_run _ _ _).mono (fun _ h c => by
      have k := (h.1 c).2
      simp only [List.forall_mem_cons] at k
      obtain ⟨h0, h1, h2, h3, h4, h5, h6, h7, h8, h9, -⟩ := k
      exact ⟨(h.1 c).1, h0, h1, h2, h3, h4, h5, h6, h7, h8, h9⟩) (Cert.KernelIdeal.Own.run_read m g),
    (θ_run _ _ _).mono (fun _ h c => ⟨(h c).1.trans (results_eq m m' c
      (fun t => IntOp.cmpi_eq.mp (congrFun (hpre c) (ix1 t))) (hargs c)), (h c).2⟩) (Cert.ReferenceIdeal.Value.run m' g')⟩

end Cert.Proof

end
-- ==== Proof.lean ====
/-
  The proof of the claims that the statement states.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_positions_count_up
public import proofs.«01_k».proof.Proof.Frames
public import proofs.«01_k».proof.Proof.Value.Main
public import Idealize.ShloMosaic.Adequacy
public import Idealize.ShloMosaic.Init

@[expose] public section

noncomputable section

namespace Cert.Proof

open Idealize.ShloMosaic Idealize.SL.Sem

/-- Every claim. -/
theorem claim : Cert.Claim := ⟨Cert.Kernel.Gen.facts, Cert.KernelIdeal.Gen.facts, Cert.ReferenceIdeal.Gen.facts, Cert.Pre_positions_count_up.Gen.facts,
  frame_Kernel, frame_KernelIdeal, fun m g _ => frame_KernelIdeal m g trivial, frame_ReferenceIdeal,
  fun m g _ => frame_ReferenceIdeal m g trivial, trivial, algebraic⟩

end Cert.Proof

end
